-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_n" .f32 0x38D1B717#32 ((1 / 10000 : ℝ) : EReal)
  ∧ IdealRules.named_const.Statement Cert.KernelIdeal.κ "bn_s" .f32 0x3F7FFFAC#32 (((Real.sqrt (2097173 / 2097152))⁻¹ : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4x128x10000x1 : Shape := ⟨4, ![4, 128, 10000, 1]⟩
abbrev S128 : Shape := ⟨1, ![128]⟩
abbrev S256x128 : Shape := ⟨2, ![256, 128]⟩
abbrev S256 : Shape := ⟨1, ![256]⟩
abbrev S256x512 : Shape := ⟨2, ![256, 512]⟩
abbrev S256x256 : Shape := ⟨2, ![256, 256]⟩
abbrev S128x256 : Shape := ⟨2, ![128, 256]⟩
abbrev S_ : Shape := ⟨0, ![]⟩

class Facts : Prop where
  bcast_S_S4x128x10000x1 : S_.BroadcastsInDim S4x128x10000x1 (![] : Fin 0 → Fin S4x128x10000x1.rank)
  bcast_S_S128 : S_.BroadcastsInDim S128 (![] : Fin 0 → Fin S128.rank)
  bcast_S_S256x128 : S_.BroadcastsInDim S256x128 (![] : Fin 0 → Fin S256x128.rank)
  bcast_S_S256 : S_.BroadcastsInDim S256 (![] : Fin 0 → Fin S256.rank)
  bcast_S_S256x512 : S_.BroadcastsInDim S256x512 (![] : Fin 0 → Fin S256x512.rank)
  bcast_S_S256x256 : S_.BroadcastsInDim S256x256 (![] : Fin 0 → Fin S256x256.rank)
  bcast_S_S128x256 : S_.BroadcastsInDim S128x256 (![] : Fin 0 → Fin S128x256.rank)

variable [Facts]

def fn_part2 {F : FTy → Type} [FloatOps F] (main_arg12 : FVec F S256 .f32) (main_arg13 : FVec F S256x256 .f32) (main_arg14 : FVec F S256 .f32) (main_arg15 : FVec F S256 .f32) (main_arg16 : FVec F S256 .f32) (main_arg17 : FVec F S128x256 .f32) (main_v2 : IVec S4x128x10000x1 1) (main_v5 : IVec S128 1) (main_v8 : IVec S128 1) (main_v11 : IVec S256x128 1) (main_v14 : IVec S256 1) (main_v17 : IVec S128 1) (main_v20 : IVec S128 1) (main_v23 : IVec S256x128 1) (main_v26 : IVec S256 1) (main_v29 : IVec S256x512 1) (main_v32 : IVec S256 1) (main_v35 : IVec S256 1) : IVec S4x128x10000x1 1 × IVec S128 1 × IVec S128 1 × IVec S256x128 1 × IVec S256 1 × IVec S128 1 × IVec S128 1 × IVec S256x128 1 × IVec S256 1 × IVec S256x512 1 × IVec S256 1 × IVec S256 1 × IVec S256 1 × IVec S256x256 1 × IVec S256 1 × IVec S256 1 × IVec S256 1 × IVec S128x256 1 :=
  let main_v36 : FVec F S256 .f32 := Host.absf main_arg12
  let main_cst_11 : FVec F S_ .f32 := constant S_ .f32 0x7F800000#32
  let main_v37 : FVec F S256 .f32 := broadcastInDim S256 ![] bcast_S_S256 main_cst_11
  let main_v38 : IVec S256 1 := cmpf .olt main_v36 main_v37
  let main_v39 : FVec F S256x256 .f32 := Host.absf main_arg13
  let main_cst_12 : FVec F S_ .f32 := constant S_ .f32 0x7F800000#32
  let main_v40 : FVec F S256x256 .f32 := broadcastInDim S256x256 ![] bcast_S_S256x256 main_cst_12
  let main_v41 : IVec S256x256 1 := cmpf .olt main_v39 main_v40
  let main_v42 : FVec F S256 .f32 := Host.absf main_arg14
  let main_cst_13 : FVec F S_ .f32 := constant S_ .f32 0x7F800000#32
  let main_v43 : FVec F S256 .f32 := broadcastInDim S256 ![] bcast_S_S256 main_cst_13
  let main_v44 : IVec S256 1 := cmpf .olt main_v42 main_v43
  let main_v45 : FVec F S256 .f32 := Host.absf main_arg15
  let main_cst_14 : FVec F S_ .f32 := constant S_ .f32 0x7F800000#32
  let main_v46 : FVec F S256 .f32 := broadcastInDim S256 ![] bcast_S_S256 main_cst_14
  let main_v47 : IVec S256 1 := cmpf .olt main_v45 main_v46
  let main_v48 : FVec F S256 .f32 := Host.absf main_arg16
  let main_cst_15 : FVec F S_ .f32 := constant S_ .f32 0x7F800000#32
  let main_v49 : FVec F S256 .f32 := broadcastInDim S256 ![] bcast_S_S256 main_cst_15
  let main_v50 : IVec S256 1 := cmpf .olt main_v48 main_v49
  let main_v51 : FVec F S128x256 .f32 := Host.absf main_arg17
  let main_cst_16 : FVec F S_ .f32 := constant S_ .f32 0x7F800000#32
  let main_v52 : FVec F S128x256 .f32 := broadcastInDim S128x256 ![] bcast_S_S128x256 main_cst_16
  let main_v53 : IVec S128x256 1 := cmpf .olt main_v51 main_v52
  (main_v2, main_v5, main_v8, main_v11, main_v14, main_v17, main_v20, main_v23, main_v26, main_v29, main_v32, main_v35, main_v38, main_v41, main_v44, main_v47, main_v50, main_v53)

def fn_part1 {F : FTy → Type} [FloatOps F] (main_arg6 : FVec F S128 .f32) (main_arg7 : FVec F S256x128 .f32) (main_arg8 : FVec F S256 .f32) (main_arg9 : FVec F S256x512 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S128x256 .f32) (main_v2 : IVec S4x128x10000x1 1) (main_v5 : IVec S128 1) (main_v8 : IVec S128 1) (main_v11 : IVec S256x128 1) (main_v14 : IVec S256 1) (main_v17 : IVec S128 1) : IVec S4x128x10000x1 1 × IVec S128 1 × IVec S128 1 × IVec S256x128 1 × IVec S256 1 × IVec S128 1 × IVec S128 1 × IVec S256x128 1 × IVec S256 1 × IVec S256x512 1 × IVec S256 1 × IVec S256 1 × IVec S256 1 × IVec S256x256 1 × IVec S256 1 × IVec S256 1 × IVec S256 1 × IVec S128x256 1 :=
  let main_v18 : FVec F S128 .f32 := Host.absf main_arg6
  let main_cst_5 : FVec F S_ .f32 := constant S_ .f32 0x7F800000#32
  let main_v19 : FVec F S128 .f32 := broadcastInDim S128 ![] bcast_S_S128 main_cst_5
  let main_v20 : IVec S128 1 := cmpf .olt main_v18 main_v19
  let main_v21 : FVec F S256x128 .f32 := Host.absf main_arg7
  let main_cst_6 : FVec F S_ .f32 := constant S_ .f32 0x7F800000#32
  let main_v22 : FVec F S256x128 .f32 := broadcastInDim S256x128 ![] bcast_S_S256x128 main_cst_6
  let main_v23 : IVec S256x128 1 := cmpf .olt main_v21 main_v22
  let main_v24 : FVec F S256 .f32 := Host.absf main_arg8
  let main_cst_7 : FVec F S_ .f32 := constant S_ .f32 0x7F800000#32
  let main_v25 : FVec F S256 .f32 := broadcastInDim S256 ![] bcast_S_S256 main_cst_7
  let main_v26 : IVec S256 1 := cmpf .olt main_v24 main_v25
  let main_v27 : FVec F S256x512 .f32 := Host.absf main_arg9
  let main_cst_8 : FVec F S_ .f32 := constant S_ .f32 0x7F800000#32
  let main_v28 : FVec F S256x512 .f32 := broadcastInDim S256x512 ![] bcast_S_S256x512 main_cst_8
  let main_v29 : IVec S256x512 1 := cmpf .olt main_v27 main_v28
  let main_v30 : FVec F S256 .f32 := Host.absf main_arg10
  let main_cst_9 : FVec F S_ .f32 := constant S_ .f32 0x7F800000#32
  let main_v31 : FVec F S256 .f32 := broadcastInDim S256 ![] bcast_S_S256 main_cst_9
  let main_v32 : IVec S256 1 := cmpf .olt main_v30 main_v31
  let main_v33 : FVec F S256 .f32 := Host.absf main_arg11
  let main_cst_10 : FVec F S_ .f32 := constant S_ .f32 0x7F800000#32
  let main_v34 : FVec F S256 .f32 := broadcastInDim S256 ![] bcast_S_S256 main_cst_10
  let main_v35 : IVec S256 1 := cmpf .olt main_v33 main_v34
  fn_part2 (F := F) main_arg12 main_arg13 main_arg14 main_arg15 main_arg16 main_arg17 main_v2 main_v5 main_v8 main_v11 main_v14 main_v17 main_v20 main_v23 main_v26 main_v29 main_v32 main_v35

def fn {F : FTy → Type} [FloatOps F] (main_arg0 : FVec F S4x128x10000x1 .f32) (main_arg1 : FVec F S128 .f32) (main_arg2 : FVec F S128 .f32) (main_arg3 : FVec F S256x128 .f32) (main_arg4 : FVec F S256 .f32) (main_arg5 : FVec F S128 .f32) (main_arg6 : FVec F S128 .f32) (main_arg7 : FVec F S256x128 .f32) (main_arg8 : FVec F S256 .f32) (main_arg9 : FVec F S256x512 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S128x256 .f32) (main_arg18 : FVec F S128 .f32) : IVec S4x128x10000x1 1 × IVec S128 1 × IVec S128 1 × IVec S256x128 1 × IVec S256 1 × IVec S128 1 × IVec S128 1 × IVec S256x128 1 × IVec S256 1 × IVec S256x512 1 × IVec S256 1 × IVec S256 1 × IVec S256 1 × IVec S256x256 1 × IVec S256 1 × IVec S256 1 × IVec S256 1 × IVec S128x256 1 :=
  let main_v0 : FVec F S4x128x10000x1 .f32 := Host.absf main_arg0
  let main_cst : FVec F S_ .f32 := constant S_ .f32 0x7F800000#32
  let main_v1 : FVec F S4x128x10000x1 .f32 := broadcastInDim S4x128x10000x1 ![] bcast_S_S4x128x10000x1 main_cst
  let main_v2 : IVec S4x128x10000x1 1 := cmpf .olt main_v0 main_v1
  let main_v3 : FVec F S128 .f32 := Host.absf main_arg1
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S128 .f32 := Host.absf main_arg5
  let main_cst_4 : FVec F S_ .f32 := constant S_ .f32 0x7F800000#32
  let main_v16 : FVec F S128 .f32 := broadcastInDim S128 ![] bcast_S_S128 main_cst_4
  let main_v17 : IVec S128 1 := cmpf .olt main_v15 main_v16
  fn_part1 (F := F) main_arg6 main_arg7 main_arg8 main_arg9 main_arg10 main_arg11 main_arg12 main_arg13 main_arg14 main_arg15 main_arg16 main_arg17 main_v2 main_v5 main_v8 main_v11 main_v14 main_v17
-- ==== Kernel.lean ====
abbrev S4x128x10000x1 : Shape := ⟨4, ![4, 128, 10000, 1]⟩
abbrev S128 : Shape := ⟨1, ![128]⟩
abbrev S256x128 : Shape := ⟨2, ![256, 128]⟩
abbrev S256 : Shape := ⟨1, ![256]⟩
abbrev S256x512 : Shape := ⟨2, ![256, 512]⟩
abbrev S256x256 : Shape := ⟨2, ![256, 256]⟩
abbrev S128x256 : Shape := ⟨2, ![128, 256]⟩
abbrev S4x128x10000 : Shape := ⟨3, ![4, 128, 10000]⟩
abbrev S4x10000x128 : Shape := ⟨3, ![4, 10000, 128]⟩
abbrev S256x1 : Shape := ⟨2, ![256, 1]⟩
abbrev S512x256 : Shape := ⟨2, ![512, 256]⟩
abbrev S1x256 : Shape := ⟨2, ![1, 256]⟩
abbrev S1x128 : Shape := ⟨2, ![1, 128]⟩
abbrev S128x128 : Shape := ⟨2, ![128, 128]⟩
abbrev S1x10000x128 : Shape := ⟨3, ![1, 10000, 128]⟩
abbrev S1x4096x128 : Shape := ⟨3, ![1, 4096, 128]⟩
abbrev S4096x128 : Shape := ⟨2, ![4096, 128]⟩
abbrev S1x1808x128 : Shape := ⟨3, ![1, 1808, 128]⟩
abbrev S1808x128 : Shape := ⟨2, ![1808, 128]⟩
abbrev S4096x256 : Shape := ⟨2, ![4096, 256]⟩
abbrev S1808x256 : Shape := ⟨2, ![1808, 256]⟩
abbrev S128x1 : Shape := ⟨2, ![128, 1]⟩
abbrev S4096 : Shape := ⟨1, ![4096]⟩
abbrev S4096x1 : Shape := ⟨2, ![4096, 1]⟩
abbrev S1808 : Shape := ⟨1, ![1808]⟩
abbrev S1808x1 : Shape := ⟨2, ![1808, 1]⟩

abbrev nBuf : Space → Nat
  | .hbm => 53
  | .vmem => 21
  | .smem => 0
  | _ => 0

abbrev bufTy : (tb : Table) → Fin (tcTables nBuf tb) → BufTy
  | .hbm, ⟨0, _⟩ => ⟨S4x128x10000x1, .f32⟩
  | .hbm, ⟨1, _⟩ => ⟨S128, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S128, .f32⟩
  | .hbm, ⟨6, _⟩ => ⟨S128, .f32⟩
  | .hbm, ⟨7, _⟩ => ⟨S256x128, .f32⟩
  | .hbm, ⟨8, _⟩ => ⟨S256, .f32⟩
  | .hbm, ⟨9, _⟩ => ⟨S256x512, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S128x256, .f32⟩
  | .hbm, ⟨18, _⟩ => ⟨S128, .f32⟩
  | .hbm, ⟨19, _⟩ => ⟨S4x128x10000, .f32⟩
  | .hbm, ⟨20, _⟩ => ⟨S4x10000x128, .f32⟩
  | .hbm, ⟨21, _⟩ => ⟨S256x1, .f32⟩
  | .hbm, ⟨22, _⟩ => ⟨S256x512, .f32⟩
  | .hbm, ⟨23, _⟩ => ⟨S256x512, .f32⟩
  | .hbm, ⟨24, _⟩ => ⟨S512x256, .f32⟩
  | .hbm, ⟨25, _⟩ => ⟨S256, .f32⟩
  | .hbm, ⟨26, _⟩ => ⟨S1x256, .f32⟩
  | .hbm, ⟨27, _⟩ => ⟨S256x1, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256, .f32⟩
  | .hbm, ⟨32, _⟩ => ⟨S1x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S128x256, .f32⟩
  | .hbm, ⟨42, _⟩ => ⟨S128x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S1x128, .f32⟩
  | .hbm, ⟨50, _⟩ => ⟨S4x10000x128, .f32⟩
  | .hbm, ⟨51, _⟩ => ⟨S4x128x10000, .f32⟩
  | .hbm, ⟨52, _⟩ => ⟨S4x128x10000x1, .f32⟩
  | .local _ .vmem, ⟨0, _⟩ => ⟨S1x10000x128, .f32⟩
  | .local _ .vmem, ⟨1, _⟩ => ⟨S1x10000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x10000x128, .f32⟩
  | .local _ .vmem, ⟨20, _⟩ => ⟨S1x10000x128, .f32⟩
  | _, _ => ⟨S4x128x10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg18_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem18_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x10000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== KernelIdeal.lean ====
variable {F : FTy → Type} [FloatOps F] [Named F]
def κ : String → Option EReal := fun
  | "bn_s" => some (((Real.sqrt (2097173 / 2097152))⁻¹ : ℝ) : EReal)
  | "inv_n" => some ((1 / 10000 : ℝ) : EReal)
  | _ => none
-- ==== ReferenceIdeal.lean ====
abbrev S4x128x10000x1 : Shape := ⟨4, ![4, 128, 10000, 1]⟩
abbrev S128 : Shape := ⟨1, ![128]⟩
abbrev S256x128 : Shape := ⟨2, ![256, 128]⟩
abbrev S256 : Shape := ⟨1, ![256]⟩
abbrev S256x512 : Shape := ⟨2, ![256, 512]⟩
abbrev S256x256 : Shape := ⟨2, ![256, 256]⟩
abbrev S128x256 : Shape := ⟨2, ![128, 256]⟩
abbrev S_ : Shape := ⟨0, ![]⟩
abbrev S4x128 : Shape := ⟨2, ![4, 128]⟩
abbrev S4x128x1x1 : Shape := ⟨4, ![4, 128, 1, 1]⟩
abbrev S1x128x1x1 : Shape := ⟨4, ![1, 128, 1, 1]⟩
abbrev S4x10000x1x256 : Shape := ⟨4, ![4, 10000, 1, 256]⟩
abbrev S4x256x10000x1 : Shape := ⟨4, ![4, 256, 10000, 1]⟩
abbrev S1x256x1x1 : Shape := ⟨4, ![1, 256, 1, 1]⟩
abbrev S4x256x1 : Shape := ⟨3, ![4, 256, 1]⟩
abbrev S4x256x1x1 : Shape := ⟨4, ![4, 256, 1, 1]⟩
abbrev S4x256x10000 : Shape := ⟨3, ![4, 256, 10000]⟩
abbrev S4x128x10000 : Shape := ⟨3, ![4, 128, 10000]⟩
abbrev S4x10000x256 : Shape := ⟨3, ![4, 10000, 256]⟩
abbrev S4x128x256 : Shape := ⟨3, ![4, 128, 256]⟩
abbrev S4x128x256x1 : Shape := ⟨4, ![4, 128, 256, 1]⟩
abbrev S4x256x128x1 : Shape := ⟨4, ![4, 256, 128, 1]⟩
abbrev S4x256x128 : Shape := ⟨3, ![4, 256, 128]⟩
abbrev S4x128x128 : Shape := ⟨3, ![4, 128, 128]⟩
abbrev S4x1x128 : Shape := ⟨3, ![4, 1, 128]⟩
abbrev S4x128x1 : Shape := ⟨3, ![4, 128, 1]⟩
abbrev S4x128x6 : Shape := ⟨3, ![4, 128, 6]⟩
abbrev S4x128x6x1 : Shape := ⟨4, ![4, 128, 6, 1]⟩
abbrev S4x128x6x256 : Shape := ⟨4, ![4, 128, 6, 256]⟩
abbrev S4x128x1x256 : Shape := ⟨4, ![4, 128, 1, 256]⟩
abbrev S4x128x6x512 : Shape := ⟨4, ![4, 128, 6, 512]⟩
abbrev S4x512x128x6 : Shape := ⟨4, ![4, 512, 128, 6]⟩
abbrev S4x256x128x6 : Shape := ⟨4, ![4, 256, 128, 6]⟩
abbrev S4x10000x1 : Shape := ⟨3, ![4, 10000, 1]⟩
abbrev S4x1x10000x1 : Shape := ⟨4, ![4, 1, 10000, 1]⟩
abbrev S4x10000x1x128 : Shape := ⟨4, ![4, 10000, 1, 128]⟩

abbrev nBuf : Space → Nat
  | .hbm => 252
  | .vmem => 0
  | .smem => 0
  | _ => 0

abbrev hbmTy0_0 (i : Nat) : BufTy := match i % 128 with
  | 0 => ⟨S4x128x10000x1, .f32⟩
  | 1 => ⟨S128, .f32⟩
  | 2 => ⟨S128, .f32⟩
  | 3 => ⟨S256x128, .f32⟩
  | 4 => ⟨S256, .f32⟩
  | 5 => ⟨S128, .f32⟩
  | 6 => ⟨S128, .f32⟩
  | 7 => ⟨S256x128, .f32⟩
  | 8 => ⟨S256, .f32⟩
  | 9 => ⟨S256x512, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S128x256, .f32⟩
  | 18 => ⟨S128, .f32⟩
  | 19 => ⟨S_, .f32⟩
  | 20 => ⟨S4x128, .f32⟩
  | 21 => ⟨S4x128x1x1, .f32⟩
  | 22 => ⟨S_, .f32⟩
  | 23 => ⟨S4x128x1x1, .f32⟩
  | 24 => ⟨S4x128x1x1, .f32⟩
  | 25 => ⟨S_, .i32⟩
  | 26 => ⟨S_, .f32⟩
  | 27 => ⟨S4x128, .f32⟩
  | 28 => ⟨S4x128x1x1, .f32⟩
  | 29 => ⟨S_, .f32⟩
  | 30 => ⟨S4x128x1x1, .f32⟩
  | 31 => ⟨S4x128x1x1, .f32⟩
  | 32 => ⟨S4x128x10000x1, .f32⟩
  | 33 => ⟨S4x128x10000x1, .f32⟩
  | 34 => ⟨S4x128x10000x1, .f32⟩
  | 35 => ⟨S_, .f32⟩
  | 36 => ⟨S_, .f32⟩
  | 37 => ⟨S_, .f32⟩
  | 38 => ⟨S_, .f32⟩
  | 39 => ⟨S4x128, .f32⟩
  | 40 => ⟨S4x128x1x1, .f32⟩
  | 41 => ⟨S4x128x1x1, .f32⟩
  | 42 => ⟨S4x128x1x1, .f32⟩
  | 43 => ⟨S_, .f32⟩
  | 44 => ⟨S_, .i1⟩
  | 45 => ⟨S_, .f32⟩
  | 46 => ⟨S_, .f32⟩
  | 47 => ⟨S4x128x1x1, .f32⟩
  | 48 => ⟨S4x128x1x1, .f32⟩
  | 49 => ⟨S4x128x10000x1, .f32⟩
  | 50 => ⟨S4x128x10000x1, .f32⟩
  | 51 => ⟨S_, .f32⟩
  | 52 => ⟨S4x128x1x1, .f32⟩
  | 53 => ⟨S4x128x1x1, .f32⟩
  | 54 => ⟨S4x128x1x1, .f32⟩
  | 55 => ⟨S4x128x10000x1, .f32⟩
  | 56 => ⟨S4x128x10000x1, .f32⟩
  | 57 => ⟨S_, .f32⟩
  | 58 => ⟨S_, .f32⟩
  | 59 => ⟨S_, .f32⟩
  | 60 => ⟨S4x128x10000x1, .f32⟩
  | 61 => ⟨S4x128x10000x1, .f32⟩
  | 62 => ⟨S1x128x1x1, .f32⟩
  | 63 => ⟨S4x128x10000x1, .f32⟩
  | 64 => ⟨S4x128x10000x1, .f32⟩
  | 65 => ⟨S1x128x1x1, .f32⟩
  | 66 => ⟨S4x128x10000x1, .f32⟩
  | 67 => ⟨S4x128x10000x1, .f32⟩
  | 68 => ⟨S_, .f32⟩
  | 69 => ⟨S4x128x10000x1, .f32⟩
  | 70 => ⟨S4x128x10000x1, .f32⟩
  | 71 => ⟨S4x10000x1x256, .f32⟩
  | 72 => ⟨S4x256x10000x1, .f32⟩
  | 73 => ⟨S1x256x1x1, .f32⟩
  | 74 => ⟨S4x256x10000x1, .f32⟩
  | 75 => ⟨S4x256x10000x1, .f32⟩
  | 76 => ⟨S_, .f32⟩
  | 77 => ⟨S4x256x1, .f32⟩
  | 78 => ⟨S_, .f32⟩
  | 79 => ⟨S4x256x1, .f32⟩
  | 80 => ⟨S4x256x1, .f32⟩
  | 81 => ⟨S4x256x1x1, .f32⟩
  | 82 => ⟨S4x256x10000x1, .f32⟩
  | 83 => ⟨S4x256x10000x1, .f32⟩
  | 84 => ⟨S4x256x10000x1, .f32⟩
  | 85 => ⟨S_, .f32⟩
  | 86 => ⟨S4x256x1, .f32⟩
  | 87 => ⟨S4x256x1x1, .f32⟩
  | 88 => ⟨S4x256x10000x1, .f32⟩
  | 89 => ⟨S4x256x10000x1, .f32⟩
  | 90 => ⟨S4x256x10000, .f32⟩
  | 91 => ⟨S4x128x10000, .f32⟩
  | 92 => ⟨S4x10000x256, .f32⟩
  | 93 => ⟨S4x128x256, .f32⟩
  | 94 => ⟨S4x128x256x1, .f32⟩
  | 95 => ⟨S4x256x128x1, .f32⟩
  | 96 => ⟨S4x256x128, .f32⟩
  | 97 => ⟨S4x128x256, .f32⟩
  | 98 => ⟨S4x128x128, .f32⟩
  | 99 => ⟨S_, .f32⟩
  | 100 => ⟨S4x128x128, .f32⟩
  | 101 => ⟨S4x128x128, .f32⟩
  | 102 => ⟨S4x256x128, .f32⟩
  | 103 => ⟨S_, .f32⟩
  | 104 => ⟨S4x128, .f32⟩
  | 105 => ⟨S4x1x128, .f32⟩
  | 106 => ⟨S4x1x128, .f32⟩
  | 107 => ⟨S4x128x128, .f32⟩
  | 108 => ⟨S4x128x128, .f32⟩
  | 109 => ⟨S4x128x1, .f32⟩
  | 110 => ⟨S4x128x128, .f32⟩
  | 111 => ⟨S4x128x128, .f32⟩
  | 112 => ⟨S4x128x6, .f32⟩
  | 113 => ⟨S4x128x6, .i32⟩
  | 114 => ⟨S4x128x256, .f32⟩
  | 115 => ⟨S_, .i32⟩
  | 116 => ⟨S4x128x6, .i32⟩
  | 117 => ⟨S4x128x6, .i1⟩
  | 118 => ⟨S_, .i32⟩
  | 119 => ⟨S4x128x6, .i32⟩
  | 120 => ⟨S4x128x6, .i32⟩
  | 121 => ⟨S4x128x6, .i32⟩
  | 122 => ⟨S4x128x6x1, .i32⟩
  | 123 => ⟨S4x128x6x256, .f32⟩
  | 124 => ⟨S4x128x1x256, .f32⟩
  | 125 => ⟨S4x128x6x256, .f32⟩
  | 126 => ⟨S4x128x6x256, .f32⟩
  | 127 => ⟨S4x128x6x512, .f32⟩
  | _ => ⟨S4x128x10000x1, .f32⟩

abbrev hbmTy0_1 (i : Nat) : BufTy := match i % 128 with
  | 0 => ⟨S4x512x128x6, .f32⟩
  | 1 => ⟨S4x128x6x256, .f32⟩
  | 2 => ⟨S4x256x128x6, .f32⟩
  | 3 => ⟨S1x256x1x1, .f32⟩
  | 4 => ⟨S4x256x128x6, .f32⟩
  | 5 => ⟨S4x256x128x6, .f32⟩
  | 6 => ⟨S_, .f32⟩
  | 7 => ⟨S_, .f32⟩
  | 8 => ⟨S_, .f32⟩
  | 9 => ⟨S4x256x128x6, .f32⟩
  | 10 => ⟨S4x256x128x6, .f32⟩
  | 11 => ⟨S1x256x1x1, .f32⟩
  | 12 => ⟨S4x256x128x6, .f32⟩
  | 13 => ⟨S4x256x128x6, .f32⟩
  | 14 => ⟨S1x256x1x1, .f32⟩
  | 15 => ⟨S4x256x128x6, .f32⟩
  | 16 => ⟨S4x256x128x6, .f32⟩
  | 17 => ⟨S_, .f32⟩
  | 18 => ⟨S4x256x128x6, .f32⟩
  | 19 => ⟨S4x256x128x6, .f32⟩
  | 20 => ⟨S4x128x6x256, .f32⟩
  | 21 => ⟨S4x256x128x6, .f32⟩
  | 22 => ⟨S1x256x1x1, .f32⟩
  | 23 => ⟨S4x256x128x6, .f32⟩
  | 24 => ⟨S4x256x128x6, .f32⟩
  | 25 => ⟨S_, .f32⟩
  | 26 => ⟨S_, .f32⟩
  | 27 => ⟨S_, .f32⟩
  | 28 => ⟨S4x256x128x6, .f32⟩
  | 29 => ⟨S4x256x128x6, .f32⟩
  | 30 => ⟨S1x256x1x1, .f32⟩
  | 31 => ⟨S4x256x128x6, .f32⟩
  | 32 => ⟨S4x256x128x6, .f32⟩
  | 33 => ⟨S1x256x1x1, .f32⟩
  | 34 => ⟨S4x256x128x6, .f32⟩
  | 35 => ⟨S4x256x128x6, .f32⟩
  | 36 => ⟨S_, .f32⟩
  | 37 => ⟨S4x256x128x6, .f32⟩
  | 38 => ⟨S4x256x128x6, .f32⟩
  | 39 => ⟨S_, .f32⟩
  | 40 => ⟨S4x256x128, .f32⟩
  | 41 => ⟨S4x256x128x1, .f32⟩
  | 42 => ⟨S4x128x256x1, .f32⟩
  | 43 => ⟨S_, .f32⟩
  | 44 => ⟨S4x128, .f32⟩
  | 45 => ⟨S4x128x1x1, .f32⟩
  | 46 => ⟨S_, .f32⟩
  | 47 => ⟨S4x128x1x1, .f32⟩
  | 48 => ⟨S4x128x1x1, .f32⟩
  | 49 => ⟨S_, .i32⟩
  | 50 => ⟨S_, .f32⟩
  | 51 => ⟨S4x128, .f32⟩
  | 52 => ⟨S4x128x1x1, .f32⟩
  | 53 => ⟨S_, .f32⟩
  | 54 => ⟨S4x128x1x1, .f32⟩
  | 55 => ⟨S4x128x1x1, .f32⟩
  | 56 => ⟨S4x128x10000x1, .f32⟩
  | 57 => ⟨S4x128x10000x1, .f32⟩
  | 58 => ⟨S4x128x10000x1, .f32⟩
  | 59 => ⟨S_, .f32⟩
  | 60 => ⟨S_, .f32⟩
  | 61 => ⟨S_, .f32⟩
  | 62 => ⟨S_, .f32⟩
  | 63 => ⟨S4x128, .f32⟩
  | 64 => ⟨S4x128x1x1, .f32⟩
  | 65 => ⟨S4x128x1x1, .f32⟩
  | 66 => ⟨S4x128x1x1, .f32⟩
  | 67 => ⟨S_, .f32⟩
  | 68 => ⟨S_, .i1⟩
  | 69 => ⟨S_, .f32⟩
  | 70 => ⟨S_, .f32⟩
  | 71 => ⟨S4x128x1x1, .f32⟩
  | 72 => ⟨S4x128x1x1, .f32⟩
  | 73 => ⟨S4x128x10000x1, .f32⟩
  | 74 => ⟨S4x128x10000x1, .f32⟩
  | 75 => ⟨S_, .f32⟩
  | 76 => ⟨S4x128x1x1, .f32⟩
  | 77 => ⟨S4x128x1x1, .f32⟩
  | 78 => ⟨S4x128x1x1, .f32⟩
  | 79 => ⟨S4x128x10000x1, .f32⟩
  | 80 => ⟨S4x128x10000x1, .f32⟩
  | 81 => ⟨S_, .f32⟩
  | 82 => ⟨S_, .f32⟩
  | 83 => ⟨S_, .f32⟩
  | 84 => ⟨S4x128x10000x1, .f32⟩
  | 85 => ⟨S4x128x10000x1, .f32⟩
  | 86 => ⟨S1x128x1x1, .f32⟩
  | 87 => ⟨S4x128x10000x1, .f32⟩
  | 88 => ⟨S4x128x10000x1, .f32⟩
  | 89 => ⟨S1x128x1x1, .f32⟩
  | 90 => ⟨S4x128x10000x1, .f32⟩
  | 91 => ⟨S4x128x10000x1, .f32⟩
  | 92 => ⟨S_, .f32⟩
  | 93 => ⟨S4x128x10000x1, .f32⟩
  | 94 => ⟨S4x128x10000x1, .f32⟩
  | 95 => ⟨S4x10000x1x256, .f32⟩
  | 96 => ⟨S4x256x10000x1, .f32⟩
  | 97 => ⟨S1x256x1x1, .f32⟩
  | 98 => ⟨S4x256x10000x1, .f32⟩
  | 99 => ⟨S4x256x10000x1, .f32⟩
  | 100 => ⟨S_, .f32⟩
  | 101 => ⟨S4x10000x1, .f32⟩
  | 102 => ⟨S_, .f32⟩
  | 103 => ⟨S4x10000x1, .f32⟩
  | 104 => ⟨S4x10000x1, .f32⟩
  | 105 => ⟨S4x1x10000x1, .f32⟩
  | 106 => ⟨S4x256x10000x1, .f32⟩
  | 107 => ⟨S4x256x10000x1, .f32⟩
  | 108 => ⟨S4x256x10000x1, .f32⟩
  | 109 => ⟨S_, .f32⟩
  | 110 => ⟨S4x10000x1, .f32⟩
  | 111 => ⟨S4x1x10000x1, .f32⟩
  | 112 => ⟨S4x256x10000x1, .f32⟩
  | 113 => ⟨S4x256x10000x1, .f32⟩
  | 114 => ⟨S4x256x10000, .f32⟩
  | 115 => ⟨S4x128x256, .f32⟩
  | 116 => ⟨S4x128x10000, .f32⟩
  | 117 => ⟨S4x128x10000x1, .f32⟩
  | 118 => ⟨S4x256x10000x1, .f32⟩
  | 119 => ⟨S4x10000x1x128, .f32⟩
  | 120 => ⟨S4x128x10000x1, .f32⟩
  | 121 => ⟨S1x128x1x1, .f32⟩
  | 122 => ⟨S4x128x10000x1, .f32⟩
  | 123 => ⟨S4x128x10000x1, .f32⟩
  | _ => ⟨S4x128x10000x1, .f32⟩

abbrev hbmTy (i : Nat) : BufTy := match i / 128 with
  | 0 => hbmTy0_0 i
  | 1 => hbmTy0_1 i
  | _ => ⟨S4x128x10000x1, .f32⟩

abbrev bufTy : (tb : Table) → Fin (tcTables nBuf tb) → BufTy
  | .hbm, ⟨i, _⟩ => hbmTy i
  | _, _ => ⟨S4x128x10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_cst_0 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_cst_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_cst_1 : Ref sig .tc := ⟨.hbm, 36, rfl⟩
abbrev main_call0_v8 : Ref sig .tc := ⟨.hbm, 37, rfl⟩
abbrev main_call0_cst_2 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_v12 : Ref sig .tc := ⟨.hbm, 42, rfl⟩
abbrev main_call0_cst_3 : Ref sig .tc := ⟨.hbm, 43, rfl⟩
abbrev main_call0_v13 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst_1 : Ref sig .tc := ⟨.hbm, 51, rfl⟩
abbrev main_v7 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_2 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_call1_cst : Ref sig .tc := ⟨.hbm, 68, rfl⟩
abbrev main_call1_v0 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_3 : Ref sig .tc := ⟨.hbm, 76, rfl⟩
abbrev main_v28 : Ref sig .tc := ⟨.hbm, 77, rfl⟩
abbrev main_cst_4 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_5 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_6 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_7 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_values : Ref sig .tc := ⟨.hbm, 112, rfl⟩
abbrev main_indices : Ref sig .tc := ⟨.hbm, 113, rfl⟩
abbrev main_v59 : Ref sig .tc := ⟨.hbm, 114, rfl⟩
abbrev main_c_8 : Ref sig .tc := ⟨.hbm, 115, rfl⟩
abbrev main_v60 : Ref sig .tc := ⟨.hbm, 116, rfl⟩
abbrev main_v61 : Ref sig .tc := ⟨.hbm, 117, rfl⟩
abbrev main_c_9 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_10 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_call2_cst : Ref sig .tc := ⟨.hbm, 145, rfl⟩
abbrev main_call2_v0 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_11 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_call3_cst : Ref sig .tc := ⟨.hbm, 164, rfl⟩
abbrev main_call3_v0 : Ref sig .tc := ⟨.hbm, 165, rfl⟩
abbrev main_v103 : Ref sig .tc := ⟨.hbm, 166, rfl⟩
abbrev main_cst_12 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_13 : Ref sig .tc := ⟨.hbm, 171, rfl⟩
abbrev main_v107 : Ref sig .tc := ⟨.hbm, 172, rfl⟩
abbrev main_v108 : Ref sig .tc := ⟨.hbm, 173, rfl⟩
abbrev main_cst_14 : Ref sig .tc := ⟨.hbm, 174, rfl⟩
abbrev main_v109 : Ref sig .tc := ⟨.hbm, 175, rfl⟩
abbrev main_v110 : Ref sig .tc := ⟨.hbm, 176, rfl⟩
abbrev main_c_15 : Ref sig .tc := ⟨.hbm, 177, rfl⟩
abbrev main_call4_cst : Ref sig .tc := ⟨.hbm, 178, rfl⟩
abbrev main_call4_v0 : Ref sig .tc := ⟨.hbm, 179, rfl⟩
abbrev main_call4_v1 : Ref sig .tc := ⟨.hbm, 180, rfl⟩
abbrev main_call4_cst_0 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_call4_v5 : Ref sig .tc := ⟨.hbm, 185, rfl⟩
abbrev main_call4_v6 : Ref sig .tc := ⟨.hbm, 186, rfl⟩
abbrev main_call4_v7 : Ref sig .tc := ⟨.hbm, 187, rfl⟩
abbrev main_call4_cst_1 : Ref sig .tc := ⟨.hbm, 188, rfl⟩
abbrev main_call4_v8 : Ref sig .tc := ⟨.hbm, 189, rfl⟩
abbrev main_call4_cst_2 : Ref sig .tc := ⟨.hbm, 190, rfl⟩
abbrev main_call4_v9 : Ref sig .tc := ⟨.hbm, 191, rfl⟩
abbrev main_call4_v10 : Ref sig .tc := ⟨.hbm, 192, rfl⟩
abbrev main_call4_v11 : Ref sig .tc := ⟨.hbm, 193, rfl⟩
abbrev main_call4_v12 : Ref sig .tc := ⟨.hbm, 194, rfl⟩
abbrev main_call4_cst_3 : Ref sig .tc := ⟨.hbm, 195, rfl⟩
abbrev main_call4_v13 : Ref sig .tc := ⟨.hbm, 196, rfl⟩
abbrev main_call4_cst_4 : Ref sig .tc := ⟨.hbm, 197, rfl⟩
abbrev main_call4_call0_v0 : Ref sig .tc := ⟨.hbm, 198, rfl⟩
abbrev main_call4_call0_v1 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_cst_16 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_cst_17 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_call5_cst : Ref sig .tc := ⟨.hbm, 220, rfl⟩
abbrev main_call5_v0 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_cst_18 : Ref sig .tc := ⟨.hbm, 228, rfl⟩
abbrev main_v135 : Ref sig .tc := ⟨.hbm, 229, rfl⟩
abbrev main_cst_19 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev main_v141 : Ref sig .tc := ⟨.hbm, 236, rfl⟩
abbrev main_cst_20 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_v149 : Ref sig .tc := ⟨.hbm, 245, rfl⟩
abbrev main_v150 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩

abbrev nD : Nat := 1
abbrev τ : Topo := Topo.v7x

variable {F : FTy → Type} [FloatOps F]
-- ==== Proof.Consts.lean ====
/- The float words of the programs and the two named constants, as extended reals. -/
module

public import proofs.«01_k».proof.Proof.Gen.KernelIdeal.Skeleton
public import Idealize.ShloMosaic.Lib.Pointwise

@[expose] public section

noncomputable section

namespace Cert.Proof

open Idealize.ShloMosaic

/-- The ε of the two instance normalizations: the float word nearest `1e-3`. -/
def eps : ℝ := 8589935 / 8589934592

/-- `1 + ε` of the batch normalizations, as the float word nearest to it. -/
def bnq : ℝ := 2097173 / 2097152

/-- The batch-normalization scale `1 / √(1 + ε)`. -/
def bns : ℝ := (Real.sqrt bnq)⁻¹

/-- `eps` is positive. -/
theorem eps_pos : 0 < eps := by norm_num [eps]
/-- `1 + ε` is positive. -/
theorem bnq_pos : 0 < bnq := by norm_num [bnq]
/-- The batch-normalization scale is positive. -/
theorem bns_pos : 0 < bns := inv_pos.mpr (Real.sqrt_pos.mpr bnq_pos)

/-- The word `0x3A83126F` is `eps`. -/
theorem word_eps : Ideal.ofBits .f32 0x3A83126F#32 = ((eps : ℝ) : EReal) := by
  unfold eps; simp [Ideal.ofBits, Ideal.ieee, -EReal.coe_mul]; norm_num
/-- The word `0x3F800054` is `bnq`. -/
theorem word_bnq : Ideal.ofBits .f32 0x3F800054#32 = ((bnq : ℝ) : EReal) := by
  unfold bnq; simp [Ideal.ofBits, Ideal.ieee, -EReal.coe_mul]; norm_num
/-- The word of zero. -/
theorem word_zero : Ideal.ofBits .f32 0x00000000#32 = ((0 : ℝ) : EReal) := by
  simp [Ideal.ofBits, Ideal.ieee]
/-- The word of two. -/
theorem word_two : Ideal.ofBits .f32 0x40000000#32 = ((2 : ℝ) : EReal) := by
  simp [Ideal.ofBits, Ideal.ieee, -EReal.coe_mul]; norm_num
/-- The word of minus two. -/
theorem word_neg_two : Ideal.ofBits .f32 0xC0000000#32 = ((-2 : ℝ) : EReal) := by
  simp [Ideal.ofBits, Ideal.ieee, -EReal.coe_mul]; norm_num
/-- The word of ten thousand. -/
theorem word_n : Ideal.ofBits .f32 0x461C4000#32 = ((10000 : ℝ) : EReal) := by
  simp [Ideal.ofBits, Ideal.ieee, -EReal.coe_mul]; norm_num
/-- The word of minus infinity. -/
theorem word_bot : Ideal.ofBits .f32 0xFF800000#32 = (⊥ : EReal) := by
  simp [Ideal.ofBits, Ideal.ieee]
/-- The word of plus infinity. -/
theorem word_top : Ideal.ofBits .f32 0x7F800000#32 = (⊤ : EReal) := by
  simp [Ideal.ofBits, Ideal.ieee]

/-- The named constant `inv_n`. -/
theorem named_inv_n : Named.named (F := Ideal) (φ := .f32) Cert.KernelIdeal.κ "inv_n" 0x38D1B717#32 = ((1 / 10000 : ℝ) : EReal) :=
  IdealRules.named_const.ideal_named_scalar _ _ _ _ rfl
/-- The named constant `bn_s`. -/
theorem named_bn_s : Named.named (F := Ideal) (φ := .f32) Cert.KernelIdeal.κ "bn_s" 0x3F7FFFAC#32 = ((bns : ℝ) : EReal) :=
  IdealRules.named_const.ideal_named_scalar _ _ _ _ rfl

/-- A sum of reals read in the extended reals. -/
theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, read in the extended reals. -/
theorem coe_max' (a b : ℝ) : max (a : EReal) (b : EReal) = ((max a b : ℝ) : EReal) :=
  (EReal.coe_strictMono.monotone.map_max).symm

/-- A maximum of finitely many reals over a set that is not empty, from minus infinity, is a real. -/
theorem fold_max_coe {ι : Type*} [Fintype ι] [Nonempty ι] (f : ι → ℝ) :
    Finset.univ.fold max (⊥ : EReal) (fun i => (f i : EReal)) = ((Finset.univ.sup' Finset.univ_nonempty f : ℝ) : EReal) := by
  have h : Finset.univ.fold max (⊥ : EReal) (fun i => (f i : EReal)) = Finset.univ.sup (fun i => (f i : EReal)) := rfl
  rw [h, ← Finset.sup'_eq_sup Finset.univ_nonempty]
  exact (Finset.comp_sup'_eq_sup'_comp Finset.univ_nonempty (fun x : ℝ => (x : EReal)) fun x y => (coe_max' x y).symm).symm

/-- The maximum of a real and zero. -/
theorem coe_max_zero' (a : ℝ) : max (a : EReal) 0 = ((max a 0 : ℝ) : EReal) := by
  rw [← coe_max', EReal.coe_zero]

/-- The reciprocal root of a positive real. -/
theorem rsqrt_pos' {r : ℝ} (h : 0 < r) : Ideal.rsqrt (r : EReal) = (((Real.sqrt r)⁻¹ : ℝ) : EReal) := by
  rw [Ideal.rsqrt_coe, if_neg (not_lt.mpr h.le), if_neg h.ne']

/-- The quotient of two reals, the second not zero. -/
theorem div_coe' (a : ℝ) {b : ℝ} (h : b ≠ 0) : Ideal.div (a : EReal) (b : EReal) = ((a / b : ℝ) : EReal) := by
  rw [Ideal.div_coe h, ← EReal.coe_mul, mul_one_div]

end Cert.Proof

end
-- ==== Proof.KSums.lean ====
/- The kernel's column sums, and the normalized and rectified input it forms from them, read at an index. -/
module

public import proofs.«01_k».proof.Proof.Consts

@[expose] public section

noncomputable section

namespace Cert.Proof

open Idealize.ShloMosaic Cert.KernelIdeal Cert.KernelIdeal.Gen

/-- The column sums of the three row chunks. -/
theorem pay5_at (v2 v11 : Vec Ideal S1x4096x128 .f32) (v20 : Vec Ideal S1x1808x128 .f32)
    (x0 x1 : Fin 4096 → Fin 128 → ℝ) (x2 : Fin 1808 → Fin 128 → ℝ)
    (h0 : ∀ i c, v2 (ix3 0 i c) = (x0 i c : EReal)) (h1 : ∀ i c, v11 (ix3 0 i c) = (x1 i c : EReal))
    (h2 : ∀ i c, v20 (ix3 0 i c) = (x2 i c : EReal)) (c : Fin 128) :
    k0_pay5 (F := Ideal) v2 v11 v20 (ix2 0 c) = ((∑ i, x0 i c + ∑ i, x1 i c + ∑ i, x2 i c : ℝ) : EReal) := by
  pointwise [k0_pay5, k0_pay2, k0_pay3, k0_pay4, h0, h1, h2]
  simp only [← coe_sum', ← EReal.coe_add]

/-- The column sums of the squares of the three row chunks. -/
theorem pay6_at (v2 v11 : Vec Ideal S1x4096x128 .f32) (v20 : Vec Ideal S1x1808x128 .f32)
    (x0 x1 : Fin 4096 → Fin 128 → ℝ) (x2 : Fin 1808 → Fin 128 → ℝ)
    (h0 : ∀ i c, v2 (ix3 0 i c) = (x0 i c : EReal)) (h1 : ∀ i c, v11 (ix3 0 i c) = (x1 i c : EReal))
    (h2 : ∀ i c, v20 (ix3 0 i c) = (x2 i c : EReal)) (c : Fin 128) :
    k0_pay6 (F := Ideal) v2 v11 v20 (ix2 0 c)
      = ((∑ i, x0 i c * x0 i c + ∑ i, x1 i c * x1 i c + ∑ i, x2 i c * x2 i c : ℝ) : EReal) := by
  pointwise [k0_pay6, k0_pay2, k0_pay3, k0_pay4, h0, h1, h2]
  simp only [← EReal.coe_mul, ← coe_sum', ← EReal.coe_add]

/-- The variance that the kernel forms from a column's sum and its sum of squares. -/
def kvar (s q : ℝ) : ℝ := q * (1 / 10000) - s * (1 / 10000) * (s * (1 / 10000))

/-- The kernel's normalized, scaled, shifted and rectified input: a column's sum `s` and sum of squares `q`, the scale
    `g`, the shift `b` and the input `x`. -/
def kact (s q g b x : ℝ) : ℝ :=
  max (g * bns * (Real.sqrt (kvar s q + eps))⁻¹ * x + (b - g * bns * (Real.sqrt (kvar s q + eps))⁻¹ * (s * (1 / 10000)))) 0

/-- The product of the rectified rows with a weight matrix. -/
def kemb {n : Nat} (s q g b : Fin 128 → ℝ) (w : Fin 128 → Fin 256 → ℝ) (x : Fin n → Fin 128 → ℝ) (i : Fin n) (k : Fin 256) : ℝ :=
  ∑ c, kact (s c) (q c) (g c) (b c) (x i c) * w c k

/-- The pooling scores of the first row chunk. -/
theorem pay12_at (s0 s1 : FVec Ideal S1x128 .f32) (xc : FVec Ideal S4096x128 .f32) (g be : Vec Ideal S1x128 .f32)
    (w : Vec Ideal S128x256 .f32) (s q gr br : Fin 128 → ℝ) (x : Fin 4096 → Fin 128 → ℝ) (wr : Fin 128 → Fin 256 → ℝ)
    (hs : ∀ c, s0 (ix2 0 c) = (s c : EReal)) (hq : ∀ c, s1 (ix2 0 c) = (q c : EReal)) (hx : ∀ i c, xc (ix2 i c) = (x i c : EReal))
    (hg : ∀ c, g (ix2 0 c) = (gr c : EReal)) (hb : ∀ c, be (ix2 0 c) = (br c : EReal)) (hw : ∀ c k, w (ix2 c k) = (wr c k : EReal))
    (hv : ∀ c, 0 < kvar (s c) (q c) + eps) (i : Fin 4096) (k : Fin 256) :
    k0_pay12 (F := Ideal) s0 s1 xc k0_pay11 g be w (ix2 i k) = ((kemb s q gr br wr x i k : ℝ) : EReal) := by
  unfold kvar at hv
  pointwise [k0_pay12, k0_pay11, hs, hq, hx, hg, hb, hw, named_inv_n, named_bn_s, word_eps]
  simp only [← EReal.coe_mul, ← EReal.coe_sub, ← EReal.coe_add, rsqrt_pos' (hv _), coe_max_zero', ← coe_sum']
  rfl

end Cert.Proof

end
-- ==== Proof.Rounds.lean ====
/- The greatest entries of a row of reals, in order: the stable descending sort, and the rounds that take the greatest
   entry out one at a time (the first position on equal entries). -/
module

public import proofs.«01_k».proof.Proof.Consts
public import Idealize.ShloMosaic.Lib.SortFacts

@[expose] public section

noncomputable section

namespace Cert.Proof

open Idealize.ShloMosaic

/-! ## The stable descending order -/

/-- "Sorts before": the greater entry first. -/
def greater {n : Nat} (f : Fin n → ℝ) (a b : Fin n) : Bool := decide (f b < f a)

/-- The strict total order of the stable sort: the greater entry first, and of equal entries the lower position. -/
def first {n : Nat} (f : Fin n → ℝ) (a b : Fin n) : Bool := decide (f b < f a ∨ (f a = f b ∧ a < b))

/-- Inserting a position below all those of a list does not tell the two relations apart. -/
theorem insert_greater {n : Nat} (f : Fin n → ℝ) (a : Fin n) (l : List (Fin n)) (h : ∀ b ∈ l, a < b) :
    insertBefore (greater f) a l = insertBefore (first f) a l := by
  induction l with
  | nil => rfl
  | cons b l ih =>
    have hb : a < b := h b List.mem_cons_self
    have e : greater f b a = first f b a := by
      unfold greater first
      refine decide_eq_decide.mpr ⟨Or.inl, ?_⟩
      rintro (h1 | ⟨_, h2⟩)
      · exact h1
      · exact absurd h2 (not_lt.mpr hb.le)
    unfold insertBefore
    rw [e, ih fun c hc => h c (List.mem_cons_of_mem b hc)]

/-- So a sort of an increasing list of positions does not either. -/
theorem sort_greater {n : Nat} (f : Fin n → ℝ) (l : List (Fin n)) (h : l.Pairwise (· < ·)) :
    stableSort (greater f) l = stableSort (first f) l := by
  induction l with
  | nil => rfl
  | cons a l ih =>
    rw [List.pairwise_cons] at h
    unfold stableSort
    rw [ih h.2]
    exact insert_greater f a _ fun b hb => h.1 b ((perm_stableSort _ l).mem_iff.mp hb)

/-- The position of the `j`-th entry of a row in descending order, the lower position first on equal entries. -/
def sel {n : Nat} (f : Fin n → ℝ) (j : Fin n) : Fin n := sortedFrom (greater f) j

/-- Different ranks have different positions. -/
theorem sel_injective {n : Nat} (f : Fin n → ℝ) : Function.Injective (sel f) := sortedFrom_injective _
/-- Every position has a rank. -/
theorem sel_surjective {n : Nat} (f : Fin n → ℝ) : Function.Surjective (sel f) := sortedFrom_surjective _

/-- The stable descending order is the sort by the strict total order. -/
theorem sel_eq {n : Nat} (f : Fin n → ℝ) : sel f = sortedFrom (first f) := by
  funext j
  have hl : sortPositions n (greater f) = sortPositions n (first f) := sort_greater f _ (List.pairwise_lt_finRange n)
  unfold sel sortedFrom
  rw [List.get_of_eq hl]
  rfl

/-- A later entry is not greater, and if it is equal it stands at a higher position. -/
theorem sel_order {n : Nat} (f : Fin n → ℝ) (i j : Fin n) (h : i < j) :
    f (sel f j) ≤ f (sel f i) ∧ (f (sel f j) = f (sel f i) → sel f i < sel f j) := by
  have key : first f (sortedFrom (first f) j) (sortedFrom (first f) i) = false := by
    refine sortedFrom_noInversion (first f) (first f) (fun a b hab => ?_) (fun _ _ h => h) (fun a b c hab hbc => ?_) i j h
    · unfold first at hab ⊢
      simp only [decide_eq_true_eq, decide_eq_false_iff_not, not_or, not_and, not_lt] at hab ⊢
      rcases hab with h1 | ⟨h1, h2⟩
      · exact ⟨h1.le, fun e => absurd e h1.ne⟩
      · exact ⟨h1.ge, fun _ => h2.le⟩
    · unfold first at hab hbc ⊢
      simp only [decide_eq_false_iff_not, not_or, not_and, not_lt] at hab hbc ⊢
      refine ⟨hab.1.trans hbc.1, fun e => ?_⟩
      have e1 : f a = f b := le_antisymm hab.1 (hbc.1.trans e.ge)
      have e2 : f b = f c := le_antisymm hbc.1 (e.ge.trans hab.1)
      exact (hbc.2 e2).trans (hab.2 e1)
  rw [← sel_eq] at key
  unfold first at key
  simp only [decide_eq_false_iff_not, not_or, not_and, not_lt] at key
  refine ⟨key.1, fun e => lt_of_le_of_ne (key.2 e) fun e' => ?_⟩
  exact absurd (sel_injective f e') h.ne

/-! ## The rounds -/

/-- The row at the start of round `r`: the entries taken so far are minus infinity. -/
def left (f : Fin 128 → ℝ) (r : Nat) (b : Fin 128) : EReal := if ∃ j : Fin 128, j.val < r ∧ sel f j = b then ⊥ else (f b : EReal)

/-- Before the first round nothing is taken out. -/
theorem left_zero (f : Fin 128 → ℝ) (b : Fin 128) : left f 0 b = (f b : EReal) := by
  unfold left; rw [if_neg]; rintro ⟨j, hj, _⟩; omega

/-- A round takes out the position of its rank. -/
theorem left_succ (f : Fin 128 → ℝ) (r : Fin 128) (b : Fin 128) :
    left f (r.val + 1) b = if b = sel f r then ⊥ else left f r.val b := by
  unfold left
  by_cases hb : b = sel f r
  · rw [if_pos hb, if_pos ⟨r, Nat.lt_succ_self _, hb.symm⟩]
  · rw [if_neg hb]
    refine if_congr ⟨?_, ?_⟩ rfl rfl
    · rintro ⟨j, hj, e⟩
      refine ⟨j, lt_of_le_of_ne (Nat.lt_succ_iff.mp hj) fun e' => hb ?_, e⟩
      rw [← e, Fin.ext e']
    · rintro ⟨j, hj, e⟩
      exact ⟨j, hj.trans (Nat.lt_succ_self _), e⟩

/-- The position of a rank is still there in the round of that rank. -/
theorem left_sel (f : Fin 128 → ℝ) (r : Fin 128) : left f r.val (sel f r) = (f (sel f r) : EReal) := by
  unfold left; rw [if_neg]; rintro ⟨j, hj, e⟩
  have := sel_injective f e; subst this; omega

/-- Round `r` finds the `r`-th entry: it is the greatest left, and of equal ones the first. -/
theorem left_le (f : Fin 128 → ℝ) (r b : Fin 128) : left f r.val b ≤ left f r.val (sel f r)
    ∧ (left f r.val b = left f r.val (sel f r) → sel f r ≤ b) := by
  rw [left_sel]
  unfold left
  split
  · exact ⟨bot_le, fun h => absurd h (EReal.bot_ne_coe _)⟩
  · rename_i h
    obtain ⟨j, rfl⟩ := sel_surjective f b
    have hj : r ≤ j := not_lt.mp fun hj => h ⟨j, hj, rfl⟩
    rcases hj.lt_or_eq with hj | rfl
    · have := sel_order f r j hj
      exact ⟨EReal.coe_le_coe_iff.mpr this.1, fun e => (this.2 (EReal.coe_eq_coe_iff.mp e)).le⟩
    · exact ⟨le_rfl, fun _ => le_rfl⟩

/-! ## A round in words -/

/-- The maximum of a row from minus infinity, when the greatest entry is known. -/
theorem fold_max_eq (w : Fin 128 → EReal) (p : Fin 128) (h : ∀ x, w x ≤ w p) : Finset.univ.fold max (⊥ : EReal) w = w p := by
  have e : Finset.univ.fold max (⊥ : EReal) w = Finset.univ.sup w := rfl
  rw [e]
  exact le_antisymm (Finset.sup_le fun x _ => h x) (Finset.le_sup (Finset.mem_univ p))

/-- The signed minimum of two positions is the lower one. -/
theorem minsi_lt : ∀ p x : Fin 128, p ≤ x → IntOp.minsi (BitVec.ofNat 32 p.val) (BitVec.ofNat 32 x.val) = BitVec.ofNat 32 p.val := by
  decide +kernel
/-- A position is below the word that stands for "not a candidate". -/
theorem minsi_big : ∀ p : Fin 128, IntOp.minsi (BitVec.ofNat 32 p.val) 1073741824#32 = BitVec.ofNat 32 p.val := by decide +kernel
/-- A position is below the greatest signed word. -/
theorem minsi_max : ∀ p : Fin 128, IntOp.minsi (BitVec.ofNat 32 p.val) 2147483647#32 = BitVec.ofNat 32 p.val := by decide +kernel
/-- Two positions compare equal as words exactly if they are equal. -/
theorem cmpi_cols : ∀ b p : Fin 128, IntOp.cmpi .eq (BitVec.ofNat 32 b.val) (BitVec.ofNat 32 p.val) = BitVec.ofBool (decide (b = p)) := by
  decide +kernel

/-- The least position that meets a condition, as the minimum over words that are large where it is not met. -/
theorem fold_minsi (c : Fin 128 → Prop) [DecidablePred c] (p : Fin 128) (hp : c p) (hmin : ∀ b, c b → p ≤ b) :
    Finset.univ.fold IntOp.minsi 2147483647#32 (fun x : Fin 128 => if c x then BitVec.ofNat 32 x.val else 1073741824#32)
      = BitVec.ofNat 32 p.val := by
  have hx : ∀ x : Fin 128, IntOp.minsi (BitVec.ofNat 32 p.val) (if c x then BitVec.ofNat 32 x.val else 1073741824#32) = BitVec.ofNat 32 p.val := by
    intro x
    split
    · exact minsi_lt p x (hmin x ‹_›)
    · exact minsi_big p
  have hs : ∀ s : Finset (Fin 128), IntOp.minsi (BitVec.ofNat 32 p.val)
      (s.fold IntOp.minsi 2147483647#32 (fun x : Fin 128 => if c x then BitVec.ofNat 32 x.val else 1073741824#32)) = BitVec.ofNat 32 p.val := by
    intro s
    induction s using Finset.induction_on with
    | empty => rw [Finset.fold_empty]; exact minsi_max p
    | insert a s ha ih => rw [Finset.fold_insert ha, ← Std.Associative.assoc (op := IntOp.minsi), hx, ih]
  rw [← Finset.insert_erase (Finset.mem_univ p), Finset.fold_insert (Finset.notMem_erase p _), if_pos hp]
  exact hs _

/-- The mask of round `r`: one at the position it finds, zero elsewhere. -/
theorem hit_eq (f : Fin 128 → ℝ) (r b : Fin 128) (w : Fin 128 → EReal) (hw : ∀ x, w x = left f r.val x) :
    IntOp.cmpi .eq (BitVec.ofNat 32 b.val)
      (Finset.univ.fold IntOp.minsi 2147483647#32
        (fun x : Fin 128 => if w x = Finset.univ.fold max (⊥ : EReal) w then BitVec.ofNat 32 x.val else 1073741824#32))
      = BitVec.ofBool (decide (b = sel f r)) := by
  have hw' : w = left f r.val := funext hw
  subst hw'
  rw [fold_max_eq _ (sel f r) fun x => (left_le f r x).1]
  have h := fold_minsi (fun x => left f r.val x = left f r.val (sel f r)) (sel f r) (Eq.refl _) fun x hx => (left_le f r x).2 hx
  rw [h, cmpi_cols]

/-- A flag read as a number. -/
theorem flag_eq (p : Prop) [Decidable p] :
    FloatOps.sitofp (F := Ideal) .f32 (BitVec.setWidth 32 (BitVec.ofBool (decide p))) = (((if p then 1 else 0 : ℝ)) : EReal) := by
  have h1 : (BitVec.setWidth 32 (BitVec.ofBool true)).toInt = 1 := by decide
  have h0 : (BitVec.setWidth 32 (BitVec.ofBool false)).toInt = 0 := by decide
  show (((BitVec.setWidth 32 (BitVec.ofBool (decide p))).toInt : ℝ) : EReal) = _
  by_cases h : p
  · rw [decide_eq_true h, h1, if_pos h, Int.cast_one]
  · rw [decide_eq_false h, h0, if_neg h, Int.cast_zero]

/-- The sum of a function against the flags of one position. -/
theorem sum_flag {n : Nat} (p : Fin n) (q : Fin n → ℝ) : ∑ x, (if x = p then (1 : ℝ) else 0) * q x = q p := by
  simp

end Cert.Proof

end
-- ==== Proof.KSoft.lean ====
/- The kernel's softmax over the points, accumulated over three row chunks: the running maximum, the running sum of
   exponentials and the running weighted sum, and the pooled features and their pairwise distances. -/
module

public import proofs.«01_k».proof.Proof.KSums
public import proofs.«01_k».proof.Proof.Rounds

@[expose] public section

noncomputable section

namespace Cert.Proof

open Idealize.ShloMosaic Cert.KernelIdeal Cert.KernelIdeal.Gen

/-- The first chunk: the maximum is some real `M`, the sums are those of the exponentials below it. -/
theorem chunk0_at (s0 s1 : FVec Ideal S1x128 .f32) (xc : FVec Ideal S4096x128 .f32) (invn : FVec Ideal S1x128 .f32)
    (g be : Vec Ideal S1x128 .f32) (w : Vec Ideal S128x256 .f32) (e : Fin 4096 → Fin 256 → ℝ) (x : Fin 4096 → Fin 128 → ℝ)
    (he : ∀ i k, k0_pay12 (F := Ideal) s0 s1 xc invn g be w (ix2 i k) = (e i k : EReal))
    (hx : ∀ i c, xc (ix2 i c) = (x i c : EReal)) :
    ∃ M : Fin 256 → ℝ, (∀ k, k0_pay13 (F := Ideal) s0 s1 k0_pay7 xc invn g be w (ix2 0 k) = (M k : EReal))
      ∧ (∀ k, k0_pay16 (F := Ideal) s0 s1 k0_pay7 k0_pay8 xc invn g be w (ix2 0 k) = ((∑ i, Real.exp (e i k - M k) : ℝ) : EReal))
      ∧ ∀ c k, k0_pay17 (F := Ideal) s0 s1 k0_pay7 k0_pay9 xc invn g be w (ix2 c k)
          = ((∑ i, x i c * Real.exp (e i k - M k) : ℝ) : EReal) := by
  have h7 : ∀ k, k0_pay7 (F := Ideal) (ix2 0 k) = (⊥ : EReal) := by
    intro k; pointwise [k0_pay7, word_bot]
  have h13 : ∀ k, k0_pay13 (F := Ideal) s0 s1 k0_pay7 xc invn g be w (ix2 0 k)
      = ((Finset.univ.sup' Finset.univ_nonempty fun i => e i k : ℝ) : EReal) := by
    intro k
    pointwise [k0_pay13, h7, he, word_bot]
    rw [fold_max_coe, max_eq_right bot_le]
  refine ⟨fun k => Finset.univ.sup' Finset.univ_nonempty fun i => e i k, h13, fun k => ?_, fun c k => ?_⟩
  · pointwise [k0_pay16, k0_pay14, k0_pay15, k0_pay8, h7, h13, he]
    simp only [← EReal.coe_sub, Ideal.exp_coe, EReal.bot_sub, Ideal.exp_bot, zero_mul, mul_zero, zero_add, coe_sum']
  · pointwise [k0_pay17, k0_pay14, k0_pay15, k0_pay9, h7, h13, he, hx]
    simp only [← EReal.coe_sub, Ideal.exp_coe, EReal.bot_sub, Ideal.exp_bot, zero_mul, mul_zero, zero_add, coe_sum', EReal.coe_mul]

/-- The second chunk: what the first left is scaled to the new maximum. -/
theorem chunk1_at (s0 s1 : FVec Ideal S1x128 .f32) (mx se : FVec Ideal S1x256 .f32) (u : FVec Ideal S128x256 .f32)
    (xr : Vec Ideal S1x4096x128 .f32)
    (g be : Vec Ideal S1x128 .f32) (w : Vec Ideal S128x256 .f32) (e : Fin 4096 → Fin 256 → ℝ) (x : Fin 4096 → Fin 128 → ℝ)
    (M Z : Fin 256 → ℝ) (U : Fin 128 → Fin 256 → ℝ)
    (hM : ∀ k, mx (ix2 0 k) = (M k : EReal)) (hZ : ∀ k, se (ix2 0 k) = (Z k : EReal)) (hU : ∀ c k, u (ix2 c k) = (U c k : EReal))
    (he : ∀ i k, k0_pay19 (F := Ideal) s0 s1 xr g be w (ix2 i k) = (e i k : EReal))
    (hx : ∀ i c, xr (ix3 0 i c) = (x i c : EReal)) :
    ∃ M' : Fin 256 → ℝ, (∀ k, k0_pay20 (F := Ideal) s0 s1 mx xr g be w (ix2 0 k) = (M' k : EReal))
      ∧ (∀ k, k0_pay23 (F := Ideal) s0 s1 mx se xr g be w (ix2 0 k)
          = ((Z k * Real.exp (M k - M' k) + ∑ i, Real.exp (e i k - M' k) : ℝ) : EReal))
      ∧ ∀ c k, k0_pay24 (F := Ideal) s0 s1 mx u xr g be w (ix2 c k)
          = ((U c k * Real.exp (M k - M' k) + ∑ i, x i c * Real.exp (e i k - M' k) : ℝ) : EReal) := by
  have h20 : ∀ k, k0_pay20 (F := Ideal) s0 s1 mx xr g be w (ix2 0 k)
      = ((max (M k) (Finset.univ.sup' Finset.univ_nonempty fun i => e i k) : ℝ) : EReal) := by
    intro k
    pointwise [k0_pay20, hM, he, word_bot]
    rw [fold_max_coe, coe_max']
  refine ⟨fun k => max (M k) (Finset.univ.sup' Finset.univ_nonempty fun i => e i k), h20, fun k => ?_, fun c k => ?_⟩
  · pointwise [k0_pay23, k0_pay21, k0_pay22, hM, hZ, h20, he]
    simp only [← EReal.coe_sub, Ideal.exp_coe, coe_sum', EReal.coe_mul, EReal.coe_add]
  · pointwise [k0_pay24, k0_pay21, k0_pay22, k0_pay18, hM, hU, h20, he, hx]
    simp only [← EReal.coe_sub, Ideal.exp_coe, coe_sum', EReal.coe_mul, EReal.coe_add]

/-- The third chunk, shorter than the others. -/
theorem chunk2_at (s0 s1 : FVec Ideal S1x128 .f32) (mx se : FVec Ideal S1x256 .f32) (u : FVec Ideal S128x256 .f32)
    (xr : Vec Ideal S1x1808x128 .f32) (cst : FVec Ideal S128x256 .f32)
    (g be : Vec Ideal S1x128 .f32) (w : Vec Ideal S128x256 .f32) (e : Fin 1808 → Fin 256 → ℝ) (x : Fin 1808 → Fin 128 → ℝ)
    (M Z : Fin 256 → ℝ) (U : Fin 128 → Fin 256 → ℝ)
    (hM : ∀ k, mx (ix2 0 k) = (M k : EReal)) (hZ : ∀ k, se (ix2 0 k) = (Z k : EReal)) (hU : ∀ c k, u (ix2 c k) = (U c k : EReal))
    (hc : ∀ c k, cst (ix2 c k) = (0 : EReal)) (hp : ∀ k, 0 ≤ Z k)
    (he : ∀ i k, k0_pay26 (F := Ideal) s0 s1 xr g be w (ix2 i k) = (e i k : EReal))
    (hx : ∀ i c, xr (ix3 0 i c) = (x i c : EReal)) :
    ∃ M' : Fin 256 → ℝ, ∀ c k, k0_pay32 (F := Ideal) (k0_pay25 xr) (k0_pay29 s0 s1 mx xr g be w) (k0_pay30 s0 s1 mx se xr g be w)
        (k0_pay31 s0 s1 mx u xr g be w) cst (ix2 c k)
          = (((U c k * Real.exp (M k - M' k) + ∑ i, x i c * Real.exp (e i k - M' k))
              / (Z k * Real.exp (M k - M' k) + ∑ i, Real.exp (e i k - M' k)) : ℝ) : EReal) := by
  have h27 : ∀ k, k0_pay27 (F := Ideal) s0 s1 mx xr g be w (ix2 0 k)
      = ((max (M k) (Finset.univ.sup' Finset.univ_nonempty fun i => e i k) : ℝ) : EReal) := by
    intro k
    pointwise [k0_pay27, hM, he, word_bot]
    rw [fold_max_coe, coe_max']
  refine ⟨fun k => max (M k) (Finset.univ.sup' Finset.univ_nonempty fun i => e i k), fun c k => ?_⟩
  have h30 : k0_pay30 (F := Ideal) s0 s1 mx se xr g be w (ix2 0 k)
      = ((Z k * Real.exp (M k - max (M k) (Finset.univ.sup' Finset.univ_nonempty fun i => e i k))
          + ∑ i, Real.exp (e i k - max (M k) (Finset.univ.sup' Finset.univ_nonempty fun i => e i k)) : ℝ) : EReal) := by
    pointwise [k0_pay30, k0_pay28, k0_pay29, hM, hZ, h27, he]
    simp only [← EReal.coe_sub, Ideal.exp_coe, coe_sum', EReal.coe_mul, EReal.coe_add]
  have hpos : Z k * Real.exp (M k - max (M k) (Finset.univ.sup' Finset.univ_nonempty fun i => e i k))
          + ∑ i, Real.exp (e i k - max (M k) (Finset.univ.sup' Finset.univ_nonempty fun i => e i k)) ≠ 0 :=
    (add_pos_of_nonneg_of_pos (mul_nonneg (hp k) (Real.exp_pos _).le)
      (Finset.sum_pos (fun i _ => Real.exp_pos _) Finset.univ_nonempty)).ne'
  pointwise [k0_pay32, k0_pay31, k0_pay28, k0_pay29, k0_pay25, hM, hU, h27, h30, he, hx, hc]
  simp only [← EReal.coe_sub, Ideal.exp_coe, ← EReal.coe_mul, ← coe_sum', ← EReal.coe_add]
  rw [div_coe' _ hpos]

/-- The pooling scores of the second row chunk. -/
theorem pay19_at (s0 s1 : FVec Ideal S1x128 .f32) (xr : Vec Ideal S1x4096x128 .f32) (g be : Vec Ideal S1x128 .f32)
    (w : Vec Ideal S128x256 .f32) (s q gr br : Fin 128 → ℝ) (x : Fin 4096 → Fin 128 → ℝ) (wr : Fin 128 → Fin 256 → ℝ)
    (hs : ∀ c, s0 (ix2 0 c) = (s c : EReal)) (hq : ∀ c, s1 (ix2 0 c) = (q c : EReal)) (hx : ∀ i c, xr (ix3 0 i c) = (x i c : EReal))
    (hg : ∀ c, g (ix2 0 c) = (gr c : EReal)) (hb : ∀ c, be (ix2 0 c) = (br c : EReal)) (hw : ∀ c k, w (ix2 c k) = (wr c k : EReal))
    (hv : ∀ c, 0 < kvar (s c) (q c) + eps) (i : Fin 4096) (k : Fin 256) :
    k0_pay19 (F := Ideal) s0 s1 xr g be w (ix2 i k) = ((kemb s q gr br wr x i k : ℝ) : EReal) := by
  unfold kvar at hv
  pointwise [k0_pay19, k0_pay18, hs, hq, hx, hg, hb, hw, named_inv_n, named_bn_s, word_eps]
  simp only [← EReal.coe_mul, ← EReal.coe_sub, ← EReal.coe_add, rsqrt_pos' (hv _), coe_max_zero', ← coe_sum']
  rfl

/-- The pooling scores of the third row chunk. -/
theorem pay26_at (s0 s1 : FVec Ideal S1x128 .f32) (xr : Vec Ideal S1x1808x128 .f32) (g be : Vec Ideal S1x128 .f32)
    (w : Vec Ideal S128x256 .f32) (s q gr br : Fin 128 → ℝ) (x : Fin 1808 → Fin 128 → ℝ) (wr : Fin 128 → Fin 256 → ℝ)
    (hs : ∀ c, s0 (ix2 0 c) = (s c : EReal)) (hq : ∀ c, s1 (ix2 0 c) = (q c : EReal)) (hx : ∀ i c, xr (ix3 0 i c) = (x i c : EReal))
    (hg : ∀ c, g (ix2 0 c) = (gr c : EReal)) (hb : ∀ c, be (ix2 0 c) = (br c : EReal)) (hw : ∀ c k, w (ix2 c k) = (wr c k : EReal))
    (hv : ∀ c, 0 < kvar (s c) (q c) + eps) (i : Fin 1808) (k : Fin 256) :
    k0_pay26 (F := Ideal) s0 s1 xr g be w (ix2 i k) = ((kemb s q gr br wr x i k : ℝ) : EReal) := by
  unfold kvar at hv
  pointwise [k0_pay26, k0_pay25, hs, hq, hx, hg, hb, hw, named_inv_n, named_bn_s, word_eps]
  simp only [← EReal.coe_mul, ← EReal.coe_sub, ← EReal.coe_add, rsqrt_pos' (hv _), coe_max_zero', ← coe_sum']
  rfl

/-- Twice the inner product of two pooled rows less the squared lengths of both. -/
def kpd (xt : Fin 128 → Fin 256 → ℝ) (a b : Fin 128) : ℝ :=
  2 * (∑ k, xt a k * xt b k) - (∑ k, xt a k * xt a k) - ∑ k, xt b k * xt b k

/-- The pairwise distances, from the pooled features. -/
theorem pay33_at (v123 : FVec Ideal S1808x128 .f32) (v158 : FVec Ideal S1808x256 .f32) (v162 : FVec Ideal S1x256 .f32)
    (v164 cst : FVec Ideal S128x256 .f32) (xt : Fin 128 → Fin 256 → ℝ)
    (h : ∀ c k, k0_pay32 (F := Ideal) v123 v158 v162 v164 cst (ix2 c k) = (xt c k : EReal)) (a b : Fin 128) :
    k0_pay33 (F := Ideal) v123 v158 v162 v164 cst (ix2 a b) = ((kpd xt a b : ℝ) : EReal) := by
  pointwise [k0_pay33, h, word_two]
  simp only [cmpi_cols, flag_eq, ← EReal.coe_mul, ← coe_sum', ← EReal.coe_sub]
  have e1 : ∑ x, (∑ k, xt a k * xt x k) * (if a = x then (1 : ℝ) else 0) = ∑ k, xt a k * xt a k := by simp
  have e2 : ∑ x, (∑ k, xt x k * xt b k) * (if x = b then (1 : ℝ) else 0) = ∑ k, xt b k * xt b k := by simp
  rw [e1, e2]
  rfl

end Cert.Proof

end
-- ==== Proof.KTop.lean ====
/- The kernel's six rounds of nearest neighbours and the two graph layers in each, read at an index. -/
module

public import proofs.«01_k».proof.Proof.KSums
public import proofs.«01_k».proof.Proof.Rounds

@[expose] public section

noncomputable section

namespace Cert.Proof

open Idealize.ShloMosaic Cert.KernelIdeal Cert.KernelIdeal.Gen

/-! ## The masks -/

section masks

variable (cols : IVec S128x128 32) (f : Fin 128 → Fin 128 → ℝ) (hc : ∀ a b : Fin 128, cols (ix2 a b) = BitVec.ofNat 32 b.val)
include hc

/-- The first round's mask. -/
theorem pay40_at (w : FVec Ideal S128x128 .f32) (hw : ∀ a b, w (ix2 a b) = left (f a) 0 b) (a b : Fin 128) :
    k0_pay40 (F := Ideal) cols w (ix2 a b) = BitVec.ofBool (decide (b = sel (f a) 0)) := by
  pointwise [k0_pay40, hc, word_bot]
  exact hit_eq (f a) 0 b (fun x => w (ix2 a x)) fun x => hw a x

/-- The rows after the first round. -/
theorem pay42_at (w : FVec Ideal S128x128 .f32) (hw : ∀ a b, w (ix2 a b) = left (f a) 0 b) (a b : Fin 128) :
    k0_pay42 (F := Ideal) cols w (ix2 a b) = left (f a) 1 b := by
  pointwise [k0_pay42, pay40_at cols f hc w hw, hw, word_bot]
  exact (left_succ (f a) 0 b).symm

/-- The second round's mask. -/
theorem pay44_at (w : FVec Ideal S128x128 .f32) (hw : ∀ a b, w (ix2 a b) = left (f a) 0 b) (a b : Fin 128) :
    k0_pay44 cols (k0_pay43 (F := Ideal) cols w) (ix2 a b) = BitVec.ofBool (decide (b = sel (f a) 1)) := by
  pointwise [k0_pay44, k0_pay43, hc, word_bot]
  exact hit_eq (f a) 1 b (fun x => k0_pay42 (F := Ideal) cols w (ix2 a x)) fun x => pay42_at cols f hc w hw a x

omit hc in
/-- The rows after the second round. -/
theorem pay45_at (w : FVec Ideal S128x128 .f32) (cand : IVec S128x128 32) (hw : ∀ a b, w (ix2 a b) = left (f a) 1 b)
    (hh : ∀ a b, k0_pay44 cols cand (ix2 a b) = BitVec.ofBool (decide (b = sel (f a) 1))) (a b : Fin 128) :
    k0_pay45 (F := Ideal) cols w cand (ix2 a b) = left (f a) 2 b := by
  pointwise [k0_pay45, hh, hw, word_bot]
  exact (left_succ (f a) 1 b).symm

/-- The third round's mask. -/
theorem pay46_at (w : FVec Ideal S128x128 .f32) (cand : IVec S128x128 32) (hw : ∀ a b, w (ix2 a b) = left (f a) 1 b)
    (hh : ∀ a b, k0_pay44 cols cand (ix2 a b) = BitVec.ofBool (decide (b = sel (f a) 1))) (a b : Fin 128) :
    k0_pay46 (F := Ideal) cols w cand (ix2 a b) = BitVec.ofBool (decide (b = sel (f a) 2)) := by
  pointwise [k0_pay46, hc, word_bot]
  exact hit_eq (f a) 2 b (fun x => k0_pay45 (F := Ideal) cols w cand (ix2 a x)) fun x => pay45_at cols f w cand hw hh a x

/-- The rows after the third round. -/
theorem pay48_at (w : FVec Ideal S128x128 .f32) (cand : IVec S128x128 32) (hw : ∀ a b, w (ix2 a b) = left (f a) 1 b)
    (hh : ∀ a b, k0_pay44 cols cand (ix2 a b) = BitVec.ofBool (decide (b = sel (f a) 1))) (a b : Fin 128) :
    k0_pay48 (F := Ideal) cols w cand (ix2 a b) = left (f a) 3 b := by
  pointwise [k0_pay48, pay46_at cols f hc w cand hw hh, pay45_at cols f w cand hw hh, word_bot]
  exact (left_succ (f a) 2 b).symm

/-- The fourth round's mask. -/
theorem pay49_at (w : FVec Ideal S128x128 .f32) (hw : ∀ a b, w (ix2 a b) = left (f a) 3 b) (a b : Fin 128) :
    k0_pay49 (F := Ideal) cols w (ix2 a b) = BitVec.ofBool (decide (b = sel (f a) 3)) := by
  pointwise [k0_pay49, hc, word_bot]
  exact hit_eq (f a) 3 b (fun x => w (ix2 a x)) fun x => hw a x

/-- The rows after the fourth round. -/
theorem pay51_at (w : FVec Ideal S128x128 .f32) (hw : ∀ a b, w (ix2 a b) = left (f a) 3 b) (a b : Fin 128) :
    k0_pay51 (F := Ideal) cols w (ix2 a b) = left (f a) 4 b := by
  pointwise [k0_pay51, pay49_at cols f hc w hw, hw, word_bot]
  exact (left_succ (f a) 3 b).symm

/-- The fifth round's mask. -/
theorem pay52_at (w : FVec Ideal S128x128 .f32) (hw : ∀ a b, w (ix2 a b) = left (f a) 3 b) (a b : Fin 128) :
    k0_pay52 (F := Ideal) cols w (ix2 a b) = BitVec.ofBool (decide (b = sel (f a) 4)) := by
  pointwise [k0_pay52, hc, word_bot]
  exact hit_eq (f a) 4 b (fun x => k0_pay51 (F := Ideal) cols w (ix2 a x)) fun x => pay51_at cols f hc w hw a x

end masks

/-! ## The two layers of a round -/

/-- The two rectified layers at row `a` for the neighbour `p`. -/
def kg (P Q : Fin 128 → Fin 256 → ℝ) (b1 : Fin 256 → ℝ) (W : Fin 256 → Fin 256 → ℝ) (b2 : Fin 256 → ℝ) (a p : Fin 128) (k : Fin 256) : ℝ :=
  max (∑ o, max (P a o - Q p o + b1 o) 0 * W o k + b2 k) 0

section layers

variable (cols : IVec S128x128 32) (f : Fin 128 → Fin 128 → ℝ) (w2 : FVec Ideal S256x256 .f32) (p q : FVec Ideal S128x256 .f32)
  (P Q : Fin 128 → Fin 256 → ℝ) (b1 : Fin 256 → ℝ) (W : Fin 256 → Fin 256 → ℝ) (b2 : Fin 256 → ℝ)
  (hW : ∀ o k, w2 (ix2 o k) = (W o k : EReal)) (hP : ∀ a o, p (ix2 a o) = (P a o : EReal)) (hQ : ∀ a o, q (ix2 a o) = (Q a o : EReal))
include hW hP hQ

/-- The layers of the first round. -/
theorem pay41_at (pd : FVec Ideal S128x128 .f32) (v204 : FVec Ideal S1x256 .f32) (v205 v208 v212 : Vec Ideal S1x256 .f32)
    (h1 : ∀ k, k0_pay38 (F := Ideal) v204 v205 (ix2 0 k) = (b1 k : EReal)) (h2 : ∀ k, k0_pay39 (F := Ideal) v208 v212 (ix2 0 k) = (b2 k : EReal))
    (hh : ∀ a b, k0_pay40 (F := Ideal) cols pd (ix2 a b) = BitVec.ofBool (decide (b = sel (f a) 0))) (a : Fin 128) (k : Fin 256) :
    k0_pay41 (F := Ideal) cols pd w2 p q v204 v205 v208 v212 (ix2 a k) = ((kg P Q b1 W b2 a (sel (f a) 0) k : ℝ) : EReal) := by
  pointwise [k0_pay41, hh, hW, hP, hQ, h1, h2, word_bot]
  simp only [flag_eq, ← EReal.coe_mul, ← coe_sum', sum_flag, ← EReal.coe_sub, ← EReal.coe_add, coe_max_zero', max_eq_right bot_le]
  rfl

variable (v207 v214 : FVec Ideal S1x256 .f32)
  (h1 : ∀ k, v207 (ix2 0 k) = (b1 k : EReal)) (h2 : ∀ k, v214 (ix2 0 k) = (b2 k : EReal))
include h1 h2

/-- The layers of the second and the third round. -/
theorem pay47_at (gm : FVec Ideal S128x256 .f32) (w : FVec Ideal S128x128 .f32) (cand : IVec S128x128 32) (G : Fin 128 → Fin 256 → ℝ)
    (hG : ∀ a k, gm (ix2 a k) = (G a k : EReal))
    (hh : ∀ a b, k0_pay44 cols cand (ix2 a b) = BitVec.ofBool (decide (b = sel (f a) 1)))
    (hh' : ∀ a b, k0_pay46 (F := Ideal) cols w cand (ix2 a b) = BitVec.ofBool (decide (b = sel (f a) 2))) (a : Fin 128) (k : Fin 256) :
    k0_pay47 (F := Ideal) cols w2 p q v207 v214 gm w cand (ix2 a k)
      = ((max (max (G a k) (kg P Q b1 W b2 a (sel (f a) 1) k)) (kg P Q b1 W b2 a (sel (f a) 2) k) : ℝ) : EReal) := by
  pointwise [k0_pay47, hh, hh', hG, hW, hP, hQ, h1, h2]
  simp only [flag_eq, ← EReal.coe_mul, ← coe_sum', sum_flag, ← EReal.coe_sub, ← EReal.coe_add, coe_max_zero', coe_max']
  rfl

/-- The layers of the fourth round. -/
theorem pay50_at (gm : FVec Ideal S128x256 .f32) (w : FVec Ideal S128x128 .f32) (G : Fin 128 → Fin 256 → ℝ)
    (hG : ∀ a k, gm (ix2 a k) = (G a k : EReal))
    (hh : ∀ a b, k0_pay49 (F := Ideal) cols w (ix2 a b) = BitVec.ofBool (decide (b = sel (f a) 3))) (a : Fin 128) (k : Fin 256) :
    k0_pay50 (F := Ideal) cols w2 p q v207 v214 gm w (ix2 a k)
      = ((max (G a k) (kg P Q b1 W b2 a (sel (f a) 3) k) : ℝ) : EReal) := by
  pointwise [k0_pay50, hh, hG, hW, hP, hQ, h1, h2]
  simp only [flag_eq, ← EReal.coe_mul, ← coe_sum', sum_flag, ← EReal.coe_sub, ← EReal.coe_add, coe_max_zero', coe_max']
  rfl

/-- The layers of the fifth round, before the last rectification. -/
theorem pay53_at (w : FVec Ideal S128x128 .f32)
    (hh : ∀ a b, k0_pay52 (F := Ideal) cols w (ix2 a b) = BitVec.ofBool (decide (b = sel (f a) 4))) (a : Fin 128) (k : Fin 256) :
    k0_pay53 (F := Ideal) cols w2 p q v207 v214 w (ix2 a k)
      = ((∑ o, max (P a o - Q (sel (f a) 4) o + b1 o) 0 * W o k + b2 k : ℝ) : EReal) := by
  pointwise [k0_pay53, hh, hW, hP, hQ, h1, h2]
  simp only [flag_eq, ← EReal.coe_mul, ← coe_sum', sum_flag, ← EReal.coe_sub, ← EReal.coe_add, coe_max_zero', coe_max']

/-- The layers of the fifth and the sixth round, and the product with the output projection. -/
theorem pay54_at (gm : FVec Ideal S128x256 .f32) (w : FVec Ideal S128x128 .f32) (hit : IVec S128x128 1) (pre : FVec Ideal S128x256 .f32)
    (ws : Vec Ideal S128x128 .f32) (G R : Fin 128 → Fin 256 → ℝ) (w2r : Fin 128 → Fin 128 → ℝ)
    (hc : ∀ a b : Fin 128, cols (ix2 a b) = BitVec.ofNat 32 b.val)
    (hG : ∀ a k, gm (ix2 a k) = (G a k : EReal)) (hR : ∀ a k, pre (ix2 a k) = (R a k : EReal))
    (hws : ∀ o a, ws (ix2 o a) = (w2r o a : EReal))
    (hw : ∀ a b, w (ix2 a b) = left (f a) 4 b)
    (hh : ∀ a b, hit (ix2 a b) = BitVec.ofBool (decide (b = sel (f a) 4))) (k : Fin 256) (o : Fin 128) :
    k0_pay54 (F := Ideal) cols w2 p q v207 v214 gm w hit pre ws (ix2 k o)
      = ((∑ a, max (max (G a k) (max (R a k) 0)) (kg P Q b1 W b2 a (sel (f a) 5) k) * w2r o a : ℝ) : EReal) := by
  have hl : ∀ a b : Fin 128, (if b = sel (f a) 4 then (⊥ : EReal) else w (ix2 a b)) = left (f a) 5 b := fun a b => by
    rw [hw]; exact (left_succ (f a) 4 b).symm
  have hit5 : ∀ a b : Fin 128, IntOp.cmpi .eq (BitVec.ofNat 32 b.val)
      (Finset.univ.fold IntOp.minsi 2147483647#32
        (fun x : Fin 128 => if left (f a) 5 x = Finset.univ.fold max (⊥ : EReal) (fun x => left (f a) 5 x) then BitVec.ofNat 32 x.val else 1073741824#32))
      = BitVec.ofBool (decide (b = sel (f a) 5)) := fun a b => hit_eq (f a) 5 b (left (f a) 5) fun _ => rfl
  pointwise [k0_pay54, hh, hc, hl, hG, hR, hws, hW, hP, hQ, h1, h2, word_bot, hit5]
  simp only [flag_eq, ← EReal.coe_mul, ← coe_sum', sum_flag, ← EReal.coe_sub, ← EReal.coe_add, coe_max_zero', coe_max']
  rfl

end layers

end Cert.Proof

end
-- ==== Proof.KOut.lean ====
/- The kernel's last pass: the unpooling softmax over the channels and the output projection, read at an index. -/
module

public import proofs.«01_k».proof.Proof.KSums

@[expose] public section

noncomputable section

namespace Cert.Proof

open Idealize.ShloMosaic Cert.KernelIdeal Cert.KernelIdeal.Gen

/-- The softmax of a row of reals. -/
def smax {n : Nat} (e : Fin n → ℝ) (k : Fin n) : ℝ := Real.exp (e k) / ∑ k', Real.exp (e k')

/-- A softmax does not change when one number is taken off every score. -/
theorem smax_shift {n : Nat} (e : Fin n → ℝ) (M : ℝ) (k : Fin n) :
    Real.exp (e k - M) / ∑ k', Real.exp (e k' - M) = smax e k := by
  unfold smax
  simp only [Real.exp_sub, ← Finset.sum_div]
  rw [div_div_div_cancel_right₀ (Real.exp_pos M).ne']

/-- The projected output of one point: its own features, and the pooled outputs weighted by the unpooling softmax. -/
def kout {n : Nat} (s q gu bu : Fin 128 → ℝ) (wu : Fin 128 → Fin 256 → ℝ) (bias : Fin 256 → ℝ) (w1 : Fin 128 → Fin 128 → ℝ)
    (A : Fin 256 → Fin 128 → ℝ) (x : Fin n → Fin 128 → ℝ) (i : Fin n) (o : Fin 128) : ℝ :=
  ∑ c, x i c * w1 c o + ∑ k, smax (fun k => kemb s q gu bu wu x i k + bias k) k * A k o

/-- The first chunk of the output. -/
theorem pay58_at (am : FVec Ideal S256x128 .f32) (xc : FVec Ideal S4096x128 .f32) (s0 s1 : FVec Ideal S1x128 .f32)
    (g be : Vec Ideal S1x128 .f32) (w : Vec Ideal S128x256 .f32) (bi : Vec Ideal S1x256 .f32) (ws : Vec Ideal S128x128 .f32)
    (bs : Vec Ideal S1x128 .f32)
    (s q gr br : Fin 128 → ℝ) (x : Fin 4096 → Fin 128 → ℝ) (wr : Fin 128 → Fin 256 → ℝ) (bir : Fin 256 → ℝ)
    (w1 : Fin 128 → Fin 128 → ℝ) (A : Fin 256 → Fin 128 → ℝ)
    (hs : ∀ c, s0 (ix2 0 c) = (s c : EReal)) (hq : ∀ c, s1 (ix2 0 c) = (q c : EReal)) (hx : ∀ i c, xc (ix2 i c) = (x i c : EReal))
    (hg : ∀ c, g (ix2 0 c) = (gr c : EReal)) (hb : ∀ c, be (ix2 0 c) = (br c : EReal)) (hw : ∀ c k, w (ix2 c k) = (wr c k : EReal))
    (hbi : ∀ k, bi (ix2 0 k) = (bir k : EReal)) (hws : ∀ c o, ws (ix2 c o) = (w1 c o : EReal)) (hA : ∀ k o, am (ix2 k o) = (A k o : EReal))
    (hv : ∀ c, 0 < kvar (s c) (q c) + eps) (i : Fin 4096) (o : Fin 128) :
    k0_pay58 (F := Ideal) am xc (k0_pay56 s0) (k0_pay57 s0 s1) g be w bi ws bs (ix2 i o)
      = ((kout s q gr br wr bir w1 A x i o : ℝ) : EReal) + bs (ix2 0 o) := by
  unfold kvar at hv
  pointwise [k0_pay58, k0_pay56, k0_pay57, hs, hq, hx, hg, hb, hw, hbi, hws, hA, named_inv_n, named_bn_s, word_eps, word_bot]
  simp only [← EReal.coe_mul, ← EReal.coe_sub, ← EReal.coe_add, rsqrt_pos' (hv _), coe_max_zero', ← coe_sum', fold_max_coe, Ideal.exp_coe]
  simp only [div_coe' _ (Finset.sum_pos (fun i _ => Real.exp_pos _) Finset.univ_nonempty).ne', ← EReal.coe_mul, ← coe_sum', ← EReal.coe_add]
  refine congrArg (fun r : ℝ => (r : EReal) + bs (ix2 0 o)) (congrArg (_ + ·) (Finset.sum_congr rfl fun k _ => congrArg (· * A k o) ?_))
  exact smax_shift (fun k => kemb s q gr br wr x i k + bir k) _ k

/-- The second chunk of the output. -/
theorem pay63_at (am : FVec Ideal S256x128 .f32) (xr : Vec Ideal S1x4096x128 .f32) (s0 s1 : FVec Ideal S1x128 .f32)
    (g be : Vec Ideal S1x128 .f32) (w : Vec Ideal S128x256 .f32) (bi : Vec Ideal S1x256 .f32) (ws : Vec Ideal S128x128 .f32)
    (bs : Vec Ideal S1x128 .f32)
    (s q gr br : Fin 128 → ℝ) (x : Fin 4096 → Fin 128 → ℝ) (wr : Fin 128 → Fin 256 → ℝ) (bir : Fin 256 → ℝ)
    (w1 : Fin 128 → Fin 128 → ℝ) (A : Fin 256 → Fin 128 → ℝ)
    (hs : ∀ c, s0 (ix2 0 c) = (s c : EReal)) (hq : ∀ c, s1 (ix2 0 c) = (q c : EReal)) (hx : ∀ i c, xr (ix3 0 i c) = (x i c : EReal))
    (hg : ∀ c, g (ix2 0 c) = (gr c : EReal)) (hb : ∀ c, be (ix2 0 c) = (br c : EReal)) (hw : ∀ c k, w (ix2 c k) = (wr c k : EReal))
    (hbi : ∀ k, bi (ix2 0 k) = (bir k : EReal)) (hws : ∀ c o, ws (ix2 c o) = (w1 c o : EReal)) (hA : ∀ k o, am (ix2 k o) = (A k o : EReal))
    (hv : ∀ c, 0 < kvar (s c) (q c) + eps) (i : Fin 4096) (o : Fin 128) :
    k0_pay63 (F := Ideal) am (k0_pay60 xr) (k0_pay61 s0 s1 xr g be w bi) (k0_pay62 s0 s1 xr g be w bi) ws bs (ix3 0 i o)
      = ((kout s q gr br wr bir w1 A x i o : ℝ) : EReal) + bs (ix2 0 o) := by
  unfold kvar at hv
  pointwise [k0_pay63, k0_pay60, k0_pay61, k0_pay62, hs, hq, hx, hg, hb, hw, hbi, hws, hA, named_inv_n, named_bn_s, word_eps, word_bot]
  simp only [← EReal.coe_mul, ← EReal.coe_sub, ← EReal.coe_add, rsqrt_pos' (hv _), coe_max_zero', ← coe_sum', fold_max_coe, Ideal.exp_coe]
  simp only [div_coe' _ (Finset.sum_pos (fun i _ => Real.exp_pos _) Finset.univ_nonempty).ne', ← EReal.coe_mul, ← coe_sum', ← EReal.coe_add]
  refine congrArg (fun r : ℝ => (r : EReal) + bs (ix2 0 o)) (congrArg (_ + ·) (Finset.sum_congr rfl fun k _ => congrArg (· * A k o) ?_))
  exact smax_shift (fun k => kemb s q gr br wr x i k + bir k) _ k

/-- The third chunk of the output. -/
theorem pay69_at (am : FVec Ideal S256x128 .f32) (xr : Vec Ideal S1x1808x128 .f32) (s0 s1 : FVec Ideal S1x128 .f32)
    (g be : Vec Ideal S1x128 .f32) (w : Vec Ideal S128x256 .f32) (bi : Vec Ideal S1x256 .f32) (ws : Vec Ideal S128x128 .f32)
    (bs : Vec Ideal S1x128 .f32)
    (s q gr br : Fin 128 → ℝ) (x : Fin 1808 → Fin 128 → ℝ) (wr : Fin 128 → Fin 256 → ℝ) (bir : Fin 256 → ℝ)
    (w1 : Fin 128 → Fin 128 → ℝ) (A : Fin 256 → Fin 128 → ℝ)
    (hs : ∀ c, s0 (ix2 0 c) = (s c : EReal)) (hq : ∀ c, s1 (ix2 0 c) = (q c : EReal)) (hx : ∀ i c, xr (ix3 0 i c) = (x i c : EReal))
    (hg : ∀ c, g (ix2 0 c) = (gr c : EReal)) (hb : ∀ c, be (ix2 0 c) = (br c : EReal)) (hw : ∀ c k, w (ix2 c k) = (wr c k : EReal))
    (hbi : ∀ k, bi (ix2 0 k) = (bir k : EReal)) (hws : ∀ c o, ws (ix2 c o) = (w1 c o : EReal)) (hA : ∀ k o, am (ix2 k o) = (A k o : EReal))
    (hv : ∀ c, 0 < kvar (s c) (q c) + eps) (i : Fin 1808) (o : Fin 128) :
    k0_pay1 (F := Ideal) (k0_pay69 am (k0_pay64 xr) (k0_pay66 s0 s1 g) (k0_pay67 be) (k0_pay68 s0 s1 g) w bi ws bs) (ix3 0 i o)
      = ((kout s q gr br wr bir w1 A x i o : ℝ) : EReal) + bs (ix2 0 o) := by
  unfold kvar at hv
  pointwise [k0_pay1, k0_pay69, k0_pay64, k0_pay65, k0_pay66, k0_pay67, k0_pay68, hs, hq, hx, hg, hb, hw, hbi, hws, hA, named_inv_n, named_bn_s, word_eps, word_bot]
  simp only [← EReal.coe_mul, ← EReal.coe_sub, ← EReal.coe_add, rsqrt_pos' (hv _), coe_max_zero', ← coe_sum', fold_max_coe, Ideal.exp_coe]
  simp only [div_coe' _ (Finset.sum_pos (fun i _ => Real.exp_pos _) Finset.univ_nonempty).ne', ← EReal.coe_mul, ← coe_sum', ← EReal.coe_add]
  refine congrArg (fun r : ℝ => (r : EReal) + bs (ix2 0 o)) (congrArg (_ + ·) (Finset.sum_congr rfl fun k _ => congrArg (· * A k o) ?_))
  exact smax_shift (fun k => kemb s q gr br wr x i k + bir k) _ k

end Cert.Proof

end
-- ==== Proof.Real.lean ====
/- Real identities behind the kernel's one-pass statistics and running softmax. -/
module

public import proofs.«01_k».proof.Proof.KSums
public import proofs.«01_k».proof.Proof.KOut

@[expose] public section

noncomputable section

namespace Cert.Proof

/-! ## The three row chunks -/

/-- Row `i` of the first chunk. -/
def lo (i : Fin 4096) : Fin 10000 := ⟨i.val, by omega⟩
/-- Row `i` of the second chunk. -/
def mid (i : Fin 4096) : Fin 10000 := ⟨4096 + i.val, by omega⟩
/-- Row `i` of the third chunk. -/
def hi (i : Fin 1808) : Fin 10000 := ⟨8192 + i.val, by omega⟩

/-- The sums over the three chunks add up to the sum over all rows. -/
theorem sum_chunks (f : Fin 10000 → ℝ) : ∑ i, f (lo i) + ∑ i, f (mid i) + ∑ i, f (hi i) = ∑ n, f n := by
  have h1 : ∑ n : Fin (8192 + 1808), f n = ∑ i : Fin 8192, f (Fin.castAdd 1808 i) + ∑ i : Fin 1808, f (Fin.natAdd 8192 i) := Fin.sum_univ_add _
  have h2 : ∑ n : Fin (4096 + 4096), f (Fin.castAdd 1808 n)
      = ∑ i : Fin 4096, f (Fin.castAdd 1808 (Fin.castAdd 4096 i)) + ∑ i : Fin 4096, f (Fin.castAdd 1808 (Fin.natAdd 4096 i)) := Fin.sum_univ_add _
  exact ((congrArg (· + ∑ i : Fin 1808, f (Fin.natAdd 8192 i)) h2.symm).trans h1.symm)

/-! ## Mean and variance -/

/-- The mean of a column. -/
def smean (f : Fin 10000 → ℝ) : ℝ := (∑ n, f n) / 10000

/-- The variance of a column: the mean squared distance from the mean. -/
def svar (f : Fin 10000 → ℝ) : ℝ := (∑ n, (f n - smean f) * (f n - smean f)) / 10000

/-- The kernel's variance, the mean square less the squared mean, is the variance. -/
theorem kvar_eq (f : Fin 10000 → ℝ) : kvar (∑ n, f n) (∑ n, f n * f n) = svar f := by
  have h : ∑ n, (f n - smean f) * (f n - smean f) = ∑ n, f n * f n - 2 * smean f * ∑ n, f n + 10000 * (smean f * smean f) := by
    have e : ∀ n, (f n - smean f) * (f n - smean f) = f n * f n - 2 * smean f * f n + smean f * smean f := fun n => by ring
    simp only [e, Finset.sum_add_distrib, Finset.sum_sub_distrib, ← Finset.mul_sum, Finset.sum_const, Finset.card_univ, Fintype.card_fin, nsmul_eq_mul]
    push_cast
    ring
  unfold svar kvar
  rw [h]
  unfold smean
  ring

/-- A variance is not negative. -/
theorem svar_nonneg (f : Fin 10000 → ℝ) : 0 ≤ svar f :=
  div_nonneg (Finset.sum_nonneg fun n _ => mul_self_nonneg _) (by norm_num)

/-- The normalized column entry. -/
def snorm (f : Fin 10000 → ℝ) (n : Fin 10000) : ℝ := (f n - smean f) / Real.sqrt (svar f + eps)

/-- The reference's scaled, shifted and rectified entry `v`. -/
def act (g b v : ℝ) : ℝ := max (v / Real.sqrt bnq * g + b) 0

/-- The kernel's rectified input is the reference's. -/
theorem kact_eq (f : Fin 10000 → ℝ) (g b : ℝ) (n : Fin 10000) :
    kact (∑ n, f n) (∑ n, f n * f n) g b (f n) = act g b (snorm f n) := by
  unfold kact act snorm bns
  rw [kvar_eq]
  congr 1
  unfold smean
  simp only [div_eq_mul_inv]
  ring

/-! ## The running softmax -/

/-- Rescaling an exponential from one shift to another. -/
theorem exp_rescale (e m m' : ℝ) : Real.exp (e - m) * Real.exp (m - m') = Real.exp (e - m') := by
  rw [← Real.exp_add]; congr 1; ring

/-- The softmax-weighted sum of a column, one chunk after the other with rescaling, is the softmax-weighted sum. -/
theorem pool_eq (e x : Fin 10000 → ℝ) (M M' M'' : ℝ) :
    ((∑ i, x (lo i) * Real.exp (e (lo i) - M)) * Real.exp (M - M') + ∑ i, x (mid i) * Real.exp (e (mid i) - M')) * Real.exp (M' - M'')
        + ∑ i, x (hi i) * Real.exp (e (hi i) - M'')
      = ∑ n, x n * Real.exp (e n - M'') := by
  rw [← sum_chunks fun n => x n * Real.exp (e n - M'')]
  simp only [add_mul, Finset.sum_mul, mul_assoc, exp_rescale]

/-- The quotient of the running sums is the average weighted by the softmax. -/
theorem pool_div (e x : Fin 10000 → ℝ) (M M' M'' : ℝ) :
    (((∑ i, x (lo i) * Real.exp (e (lo i) - M)) * Real.exp (M - M') + ∑ i, x (mid i) * Real.exp (e (mid i) - M')) * Real.exp (M' - M'')
        + ∑ i, x (hi i) * Real.exp (e (hi i) - M''))
      / (((∑ i, Real.exp (e (lo i) - M)) * Real.exp (M - M') + ∑ i, Real.exp (e (mid i) - M')) * Real.exp (M' - M'')
        + ∑ i, Real.exp (e (hi i) - M''))
      = ∑ n, x n * smax e n := by
  have h := pool_eq e (fun _ => 1) M M' M''
  simp only [one_mul] at h
  rw [pool_eq, h, Finset.sum_div]
  refine Finset.sum_congr rfl fun n _ => ?_
  rw [mul_div_assoc, smax_shift]

end Cert.Proof

end
-- ==== Proof.KBlock.lean ====
/- What one grid point computes, as a function of the blocks it reads: the kernel's values composed, and their real values. -/
module

public import proofs.«01_k».proof.Proof.KSoft
public import proofs.«01_k».proof.Proof.KTop
public import proofs.«01_k».proof.Proof.Real

@[expose] public section

noncomputable section

namespace Cert.Proof

open Idealize.ShloMosaic Cert.KernelIdeal Cert.KernelIdeal.Gen

/-- The blocks that a grid point reads: the three row chunks of the data, then the other operands in order. -/
structure Win where
  (xa xb : Vec Ideal S1x4096x128 .f32) (xc : Vec Ideal S1x1808x128 .f32)
  (x1 x2 x3 x4 : Vec Ideal S1x128 .f32) (x5 x6 : Vec Ideal S128x256 .f32) (x7 : Vec Ideal S1x256 .f32)
  (x8 x9 x10 : Vec Ideal S256x256 .f32) (x11 x12 x13 x14 : Vec Ideal S1x256 .f32)
  (x15 x16 : Vec Ideal S128x128 .f32) (x17 : Vec Ideal S1x128 .f32)

/-- The real numbers in those blocks. -/
structure Nums where
  (x : Fin 10000 → Fin 128 → ℝ) (gd bd gu bu : Fin 128 → ℝ) (wd wu : Fin 128 → Fin 256 → ℝ) (bias : Fin 256 → ℝ)
  (m1 a2 w2 : Fin 256 → Fin 256 → ℝ) (b1 e1 b2 e2 : Fin 256 → ℝ) (v1 v2 : Fin 128 → Fin 128 → ℝ)

/-- The blocks hold those real numbers. -/
structure Win.Holds (B : Win) (R : Nums) : Prop where
  xa : ∀ i c, B.xa (ix3 0 i c) = (R.x (lo i) c : EReal)
  xb : ∀ i c, B.xb (ix3 0 i c) = (R.x (mid i) c : EReal)
  xc : ∀ i c, B.xc (ix3 0 i c) = (R.x (hi i) c : EReal)
  x1 : ∀ c, B.x1 (ix2 0 c) = (R.gd c : EReal)
  x2 : ∀ c, B.x2 (ix2 0 c) = (R.bd c : EReal)
  x3 : ∀ c, B.x3 (ix2 0 c) = (R.gu c : EReal)
  x4 : ∀ c, B.x4 (ix2 0 c) = (R.bu c : EReal)
  x5 : ∀ c k, B.x5 (ix2 c k) = (R.wd c k : EReal)
  x6 : ∀ c k, B.x6 (ix2 c k) = (R.wu c k : EReal)
  x7 : ∀ k, B.x7 (ix2 0 k) = (R.bias k : EReal)
  x8 : ∀ o k, B.x8 (ix2 o k) = (R.m1 o k : EReal)
  x9 : ∀ o k, B.x9 (ix2 o k) = (R.a2 o k : EReal)
  x10 : ∀ o k, B.x10 (ix2 o k) = (R.w2 o k : EReal)
  x11 : ∀ k, B.x11 (ix2 0 k) = (R.b1 k : EReal)
  x12 : ∀ k, B.x12 (ix2 0 k) = (R.e1 k : EReal)
  x13 : ∀ k, B.x13 (ix2 0 k) = (R.b2 k : EReal)
  x14 : ∀ k, B.x14 (ix2 0 k) = (R.e2 k : EReal)
  x15 : ∀ c o, B.x15 (ix2 c o) = (R.v1 c o : EReal)
  x16 : ∀ o a, B.x16 (ix2 o a) = (R.v2 o a : EReal)

/-! ## The values of a grid point -/

/-- The column sums. -/
def kS (B : Win) : FVec Ideal S1x128 .f32 := k0_pay5 B.xa B.xb B.xc
/-- The column sums of squares. -/
def kQ (B : Win) : FVec Ideal S1x128 .f32 := k0_pay6 B.xa B.xb B.xc
/-- The running maximum after the first chunk. -/
def kM0 (B : Win) : FVec Ideal S1x256 .f32 := k0_pay13 (kS B) (kQ B) k0_pay7 (k0_pay10 B.xa) k0_pay11 B.x1 B.x2 B.x5
/-- The running denominator after the first chunk. -/
def kZ0 (B : Win) : FVec Ideal S1x256 .f32 := k0_pay16 (kS B) (kQ B) k0_pay7 k0_pay8 (k0_pay10 B.xa) k0_pay11 B.x1 B.x2 B.x5
/-- The running numerator after the first chunk. -/
def kU0 (B : Win) : FVec Ideal S128x256 .f32 := k0_pay17 (kS B) (kQ B) k0_pay7 k0_pay9 (k0_pay10 B.xa) k0_pay11 B.x1 B.x2 B.x5
/-- The running maximum after the second chunk. -/
def kM1 (B : Win) : FVec Ideal S1x256 .f32 := k0_pay20 (kS B) (kQ B) (kM0 B) B.xb B.x1 B.x2 B.x5
/-- The running denominator after the second chunk. -/
def kZ1 (B : Win) : FVec Ideal S1x256 .f32 := k0_pay23 (kS B) (kQ B) (kM0 B) (kZ0 B) B.xb B.x1 B.x2 B.x5
/-- The running numerator after the second chunk. -/
def kU1 (B : Win) : FVec Ideal S128x256 .f32 := k0_pay24 (kS B) (kQ B) (kM0 B) (kU0 B) B.xb B.x1 B.x2 B.x5
/-- The third chunk's exponentials. -/
def kE2 (B : Win) : FVec Ideal S1808x256 .f32 := k0_pay29 (kS B) (kQ B) (kM1 B) B.xc B.x1 B.x2 B.x5
/-- The denominator after the third chunk. -/
def kZ2 (B : Win) : FVec Ideal S1x256 .f32 := k0_pay30 (kS B) (kQ B) (kM1 B) (kZ1 B) B.xc B.x1 B.x2 B.x5
/-- The rescaled numerator before the third chunk's part. -/
def kU2 (B : Win) : FVec Ideal S128x256 .f32 := k0_pay31 (kS B) (kQ B) (kM1 B) (kU1 B) B.xc B.x1 B.x2 B.x5
/-- A block of zeros. -/
def kC : FVec Ideal S128x256 .f32 := constant S128x256 .f32 0x00000000#32
/-- The column numbers. -/
def kI : IVec S128x128 32 := iota .tc S128x128 32 [1] iota_S128x128_d1_w32
/-- The pooled features. -/
def kX (B : Win) : FVec Ideal S128x256 .f32 := k0_pay32 (k0_pay25 B.xc) (kE2 B) (kZ2 B) (kU2 B) kC
/-- The negated squared distances. -/
def kD (B : Win) : FVec Ideal S128x128 .f32 := k0_pay33 (k0_pay25 B.xc) (kE2 B) (kZ2 B) (kU2 B) kC
/-- The second layer's weights. -/
def kW (B : Win) : FVec Ideal S256x256 .f32 := k0_pay34 B.x10
/-- The first layer's part that is a row's own. -/
def kP (B : Win) : FVec Ideal S128x256 .f32 := k0_pay35 (k0_pay25 B.xc) (kE2 B) (kZ2 B) (kU2 B) kC B.x8
/-- The first layer's part that is a neighbour's. -/
def kN (B : Win) : FVec Ideal S128x256 .f32 := k0_pay36 (k0_pay25 B.xc) (kE2 B) (kZ2 B) (kU2 B) kC B.x9
/-- The first layer's shift. -/
def kB1 (B : Win) : FVec Ideal S1x256 .f32 := k0_pay38 (k0_pay37 B.x11) B.x12
/-- The second layer's shift. -/
def kB2 (B : Win) : FVec Ideal S1x256 .f32 := k0_pay39 B.x13 B.x14
/-- The layers of the first round. -/
def kG1 (B : Win) : FVec Ideal S128x256 .f32 := k0_pay41 kI (kD B) (kW B) (kP B) (kN B) (k0_pay37 B.x11) B.x12 B.x13 B.x14
/-- The rows after the first round. -/
def kL1 (B : Win) : FVec Ideal S128x128 .f32 := k0_pay42 kI (kD B)
/-- The second round's candidates. -/
def kH1 (B : Win) : IVec S128x128 32 := k0_pay43 (F := Ideal) kI (kD B)
/-- The largest layers of three rounds. -/
def kG3 (B : Win) : FVec Ideal S128x256 .f32 := k0_pay47 kI (kW B) (kP B) (kN B) (kB1 B) (kB2 B) (kG1 B) (kL1 B) (kH1 B)
/-- The rows after three rounds. -/
def kL3 (B : Win) : FVec Ideal S128x128 .f32 := k0_pay48 kI (kL1 B) (kH1 B)
/-- The largest layers of four rounds. -/
def kG4 (B : Win) : FVec Ideal S128x256 .f32 := k0_pay50 kI (kW B) (kP B) (kN B) (kB1 B) (kB2 B) (kG3 B) (kL3 B)
/-- The largest layers of six rounds, projected. -/
def kA (B : Win) : FVec Ideal S256x128 .f32 :=
  k0_pay54 kI (kW B) (kP B) (kN B) (kB1 B) (kB2 B) (kG4 B) (k0_pay51 kI (kL3 B)) (k0_pay52 (F := Ideal) kI (kL3 B))
    (k0_pay53 kI (kW B) (kP B) (kN B) (kB1 B) (kB2 B) (kL3 B)) B.x16
/-- The first chunk of the output. -/
def kOut0 (B : Win) : FVec Ideal S1x4096x128 .f32 :=
  k0_pay59 (k0_pay58 (kA B) (k0_pay55 B.xa) (k0_pay56 (kS B)) (k0_pay57 (kS B) (kQ B)) B.x3 B.x4 B.x6 B.x7 B.x15 B.x17)
/-- The second chunk of the output. -/
def kOut1 (B : Win) : FVec Ideal S1x4096x128 .f32 :=
  k0_pay63 (kA B) (k0_pay60 B.xb) (k0_pay61 (kS B) (kQ B) B.xb B.x3 B.x4 B.x6 B.x7) (k0_pay62 (kS B) (kQ B) B.xb B.x3 B.x4 B.x6 B.x7) B.x15 B.x17
/-- The third chunk of the output. -/
def kOut2 (B : Win) : FVec Ideal S1x1808x128 .f32 :=
  k0_pay1 (k0_pay69 (kA B) (k0_pay64 B.xc) (k0_pay66 (kS B) (kQ B) B.x3) (k0_pay67 B.x4) (k0_pay68 (kS B) (kQ B) B.x3) B.x6 B.x7 B.x15 B.x17)

/-! ## Their real values -/

namespace Nums

variable (R : Nums)

/-- The column sums. -/
def s (c : Fin 128) : ℝ := ∑ n, R.x n c
/-- The column sums of squares. -/
def q (c : Fin 128) : ℝ := ∑ n, R.x n c * R.x n c
/-- The pooling scores. -/
def e (n : Fin 10000) (k : Fin 256) : ℝ := kemb R.s R.q R.gd R.bd R.wd R.x n k
/-- The pooled features. -/
def xt (c : Fin 128) (k : Fin 256) : ℝ := ∑ n, R.x n c * smax (fun n => R.e n k) n
/-- The layers of channel `a` for the neighbour `p`. -/
def g (a p : Fin 128) (k : Fin 256) : ℝ :=
  kg (fun a o => ∑ i, R.xt a i * (R.m1 i o * bns)) (fun a o => ∑ i, R.xt a i * (R.a2 i o * bns)) (fun o => R.b1 o * bns + R.e1 o)
    (fun o k => R.w2 o k * bns) (fun k => R.b2 k * bns + R.e2 k) a p k
/-- The neighbour of channel `a` in round `j`. -/
def nb (a : Fin 128) (j : Fin 128) : Fin 128 := sel (kpd R.xt a) j
/-- The largest layers of the six rounds. -/
def gm (a : Fin 128) (k : Fin 256) : ℝ :=
  max (max (max (max (max (R.g a (R.nb a 0) k) (R.g a (R.nb a 1) k)) (R.g a (R.nb a 2) k)) (R.g a (R.nb a 3) k)) (R.g a (R.nb a 4) k)) (R.g a (R.nb a 5) k)
/-- The output of point `n`, without the last bias. -/
def out (n : Fin 10000) (o : Fin 128) : ℝ :=
  kout R.s R.q R.gu R.bu R.wu R.bias R.v1 (fun k o => ∑ a, R.gm a k * R.v2 o a) R.x n o

/-- The variance and the small constant have a positive sum. -/
theorem var_pos (c : Fin 128) : 0 < kvar (R.s c) (R.q c) + eps := by
  unfold s q
  rw [kvar_eq]
  exact add_pos_of_nonneg_of_pos (svar_nonneg _) eps_pos

end Nums

variable {B : Win} {R : Nums} (h : B.Holds R)
include h

/-- The column sums are those of the numbers. -/
theorem kS_at (c : Fin 128) : kS B (ix2 0 c) = (R.s c : EReal) := by
  unfold kS
  rw [pay5_at _ _ _ _ _ _ h.xa h.xb h.xc, sum_chunks fun n => R.x n c]
  rfl

/-- The column sums of squares are those of the numbers. -/
theorem kQ_at (c : Fin 128) : kQ B (ix2 0 c) = (R.q c : EReal) := by
  unfold kQ
  rw [pay6_at _ _ _ _ _ _ h.xa h.xb h.xc, sum_chunks fun n => R.x n c * R.x n c]
  rfl

/-- The first chunk holds the first points. -/
theorem pay10_at (i : Fin 4096) (c : Fin 128) : k0_pay10 (F := Ideal) B.xa (ix2 i c) = (R.x (lo i) c : EReal) := by
  pointwise [k0_pay10, h.xa]

/-- The pooled features. -/
theorem kX_at (c : Fin 128) (k : Fin 256) : kX B (ix2 c k) = (R.xt c k : EReal) := by
  have e0 := fun i k => pay12_at (kS B) (kQ B) (k0_pay10 B.xa) B.x1 B.x2 B.x5 R.s R.q R.gd R.bd (fun i => R.x (lo i)) R.wd
    (kS_at h) (kQ_at h) (pay10_at h) h.x1 h.x2 h.x5 R.var_pos i k
  have e1 := fun i k => pay19_at (kS B) (kQ B) B.xb B.x1 B.x2 B.x5 R.s R.q R.gd R.bd (fun i => R.x (mid i)) R.wd
    (kS_at h) (kQ_at h) h.xb h.x1 h.x2 h.x5 R.var_pos i k
  have e2 := fun i k => pay26_at (kS B) (kQ B) B.xc B.x1 B.x2 B.x5 R.s R.q R.gd R.bd (fun i => R.x (hi i)) R.wd
    (kS_at h) (kQ_at h) h.xc h.x1 h.x2 h.x5 R.var_pos i k
  obtain ⟨M, hM, hZ, hU⟩ := chunk0_at (kS B) (kQ B) (k0_pay10 B.xa) k0_pay11 B.x1 B.x2 B.x5 (fun i k => R.e (lo i) k)
    (fun i => R.x (lo i)) e0 (pay10_at h)
  obtain ⟨M', hM', hZ', hU'⟩ := chunk1_at (kS B) (kQ B) (kM0 B) (kZ0 B) (kU0 B) B.xb B.x1 B.x2 B.x5 (fun i k => R.e (mid i) k)
    (fun i => R.x (mid i)) M _ _ hM hZ hU e1 h.xb
  have hc : ∀ c k, kC (ix2 c k) = (0 : EReal) := fun c k => by
    pointwise [kC]
  obtain ⟨M'', hX⟩ := chunk2_at (kS B) (kQ B) (kM1 B) (kZ1 B) (kU1 B) B.xc kC B.x1 B.x2 B.x5 (fun i k => R.e (hi i) k)
    (fun i => R.x (hi i)) M' _ _ hM' hZ' hU' hc
    (fun k => add_nonneg (mul_nonneg (Finset.sum_nonneg fun i _ => (Real.exp_pos _).le) (Real.exp_pos _).le) (Finset.sum_nonneg fun i _ => (Real.exp_pos _).le))
    e2 h.xc
  refine (hX c k).trans (congrArg _ ?_)
  exact pool_div (fun n => R.e n k) (fun n => R.x n c) (M k) (M' k) (M'' k)

/-- The negated squared distances are those of the pooled features. -/
theorem kD_at (a b : Fin 128) : kD B (ix2 a b) = ((kpd R.xt a b : ℝ) : EReal) :=
  pay33_at _ _ _ _ _ R.xt (kX_at h) a b

/-- They are the rows before any round. -/
theorem kD_left (a b : Fin 128) : kD B (ix2 a b) = left (kpd R.xt a) 0 b :=
  (kD_at h a b).trans (left_zero _ _).symm

omit h in
/-- A column number as a word. -/
theorem kI_at (a b : Fin 128) : kI (ix2 a b) = BitVec.ofNat 32 b.val := by
  pointwise [kI]

/-- The second layer's weights are scaled. -/
theorem kW_at (o k : Fin 256) : kW B (ix2 o k) = ((R.w2 o k * bns : ℝ) : EReal) := by
  pointwise [kW, k0_pay34, h.x10, named_bn_s]
  simp only [← EReal.coe_mul]

/-- The first layer's part that is a row's own, as a sum. -/
theorem kP_at (a : Fin 128) (o : Fin 256) : kP B (ix2 a o) = ((∑ i, R.xt a i * (R.m1 i o * bns) : ℝ) : EReal) := by
  have hX := kX_at h
  unfold kX at hX
  pointwise [kP, k0_pay35, hX, h.x8, named_bn_s]
  simp only [← EReal.coe_mul, ← coe_sum']

/-- The first layer's part that is a neighbour's, as a sum. -/
theorem kN_at (a : Fin 128) (o : Fin 256) : kN B (ix2 a o) = ((∑ i, R.xt a i * (R.a2 i o * bns) : ℝ) : EReal) := by
  have hX := kX_at h
  unfold kX at hX
  pointwise [kN, k0_pay36, hX, h.x9, named_bn_s]
  simp only [← EReal.coe_mul, ← coe_sum']

/-- The first layer's shift: the scaled bias plus the offset. -/
theorem kB1_at (k : Fin 256) : kB1 B (ix2 0 k) = ((R.b1 k * bns + R.e1 k : ℝ) : EReal) := by
  pointwise [kB1, k0_pay38, k0_pay37, h.x11, h.x12, named_bn_s]
  simp only [← EReal.coe_mul, ← EReal.coe_add]

/-- The second layer's shift: the scaled bias plus the offset. -/
theorem kB2_at (k : Fin 256) : kB2 B (ix2 0 k) = ((R.b2 k * bns + R.e2 k : ℝ) : EReal) := by
  pointwise [kB2, k0_pay39, h.x13, h.x14, named_bn_s]
  simp only [← EReal.coe_mul, ← EReal.coe_add]

/-- The projected largest layers. -/
theorem kA_at (k : Fin 256) (o : Fin 128) : kA B (ix2 k o) = ((∑ a, R.gm a k * R.v2 o a : ℝ) : EReal) := by
  have m0 := pay40_at kI (kpd R.xt) kI_at (kD B) (kD_left h)
  have l1 : ∀ a b, kL1 B (ix2 a b) = _ := pay42_at kI (kpd R.xt) kI_at (kD B) (kD_left h)
  have m1 : ∀ a b, k0_pay44 kI (kH1 B) (ix2 a b) = _ := pay44_at kI (kpd R.xt) kI_at (kD B) (kD_left h)
  have m2 := pay46_at kI (kpd R.xt) kI_at (kL1 B) (kH1 B) l1 m1
  have l3 : ∀ a b, kL3 B (ix2 a b) = _ := pay48_at kI (kpd R.xt) kI_at (kL1 B) (kH1 B) l1 m1
  have m3 := pay49_at kI (kpd R.xt) kI_at (kL3 B) l3
  have l4 := pay51_at kI (kpd R.xt) kI_at (kL3 B) l3
  have m4 := pay52_at kI (kpd R.xt) kI_at (kL3 B) l3
  have g1 : ∀ a k, kG1 B (ix2 a k) = _ := pay41_at kI (kpd R.xt) (kW B) (kP B) (kN B) _ _ _ _ _ (kW_at h) (kP_at h) (kN_at h) (kD B)
    (k0_pay37 B.x11) B.x12 B.x13 B.x14 (kB1_at h) (kB2_at h) m0
  have g3 : ∀ a k, kG3 B (ix2 a k) = _ := pay47_at kI (kpd R.xt) (kW B) (kP B) (kN B) _ _ _ _ _ (kW_at h) (kP_at h) (kN_at h)
    (kB1 B) (kB2 B) (kB1_at h) (kB2_at h) (kG1 B) (kL1 B) (kH1 B) _ g1 m1 m2
  have g4 : ∀ a k, kG4 B (ix2 a k) = _ := pay50_at kI (kpd R.xt) (kW B) (kP B) (kN B) _ _ _ _ _ (kW_at h) (kP_at h) (kN_at h)
    (kB1 B) (kB2 B) (kB1_at h) (kB2_at h) (kG3 B) (kL3 B) _ g3 m3
  have p5 := pay53_at kI (kpd R.xt) (kW B) (kP B) (kN B) _ _ _ _ _ (kW_at h) (kP_at h) (kN_at h)
    (kB1 B) (kB2 B) (kB1_at h) (kB2_at h) (kL3 B) m4
  exact pay54_at kI (kpd R.xt) (kW B) (kP B) (kN B) _ _ _ _ _ (kW_at h) (kP_at h) (kN_at h)
    (kB1 B) (kB2 B) (kB1_at h) (kB2_at h) (kG4 B) _ _ _ B.x16 _ _ R.v2 kI_at g4 p5 h.x16 l4 m4 k o

/-- The first chunk of the output. -/
theorem kOut0_at (i : Fin 4096) (o : Fin 128) : kOut0 B (ix3 0 i o) = (R.out (lo i) o : EReal) + B.x17 (ix2 0 o) := by
  have h55 : ∀ i c, k0_pay55 (F := Ideal) B.xa (ix2 i c) = (R.x (lo i) c : EReal) := fun i c => by
    pointwise [k0_pay55, h.xa]
  have h58 := pay58_at (kA B) (k0_pay55 B.xa) (kS B) (kQ B) B.x3 B.x4 B.x6 B.x7 B.x15 B.x17 R.s R.q R.gu R.bu (fun i => R.x (lo i)) R.wu R.bias
    R.v1 _ (kS_at h) (kQ_at h) h55 h.x3 h.x4 h.x6 h.x7 h.x15 (kA_at h) R.var_pos i o
  refine Eq.trans ?_ h58
  pointwise [kOut0, k0_pay59]

/-- The second chunk of the output. -/
theorem kOut1_at (i : Fin 4096) (o : Fin 128) : kOut1 B (ix3 0 i o) = (R.out (mid i) o : EReal) + B.x17 (ix2 0 o) :=
  pay63_at (kA B) B.xb (kS B) (kQ B) B.x3 B.x4 B.x6 B.x7 B.x15 B.x17 R.s R.q R.gu R.bu (fun i => R.x (mid i)) R.wu R.bias
    R.v1 _ (kS_at h) (kQ_at h) h.xb h.x3 h.x4 h.x6 h.x7 h.x15 (kA_at h) R.var_pos i o

/-- The third chunk of the output. -/
theorem kOut2_at (i : Fin 1808) (o : Fin 128) : kOut2 B (ix3 0 i o) = (R.out (hi i) o : EReal) + B.x17 (ix2 0 o) :=
  pay69_at (kA B) B.xc (kS B) (kQ B) B.x3 B.x4 B.x6 B.x7 B.x15 B.x17 R.s R.q R.gu R.bu (fun i => R.x (hi i)) R.wu R.bias
    R.v1 _ (kS_at h) (kQ_at h) h.xc h.x3 h.x4 h.x6 h.x7 h.x15 (kA_at h) R.var_pos i o

end Cert.Proof

end
-- ==== Proof.KPoint.lean ====
/- What a grid point leaves in the output block. -/
module

public import proofs.«01_k».proof.Proof.Gen.KernelIdeal.Frame
public import proofs.«01_k».proof.Proof.KBlock
public import Idealize.ShloMosaic.Lib.Pipeline.Value

@[expose] public section

noncomputable section

namespace Cert.Proof

open Idealize.ShloMosaic Cert.KernelIdeal Cert.KernelIdeal.Gen Idealize.ShloMosaic.TcCoe

variable (m : (ℓ : Loc nD τ sig) → Buf (Elt Ideal) ℓ)

/-- Two zero offsets. -/
theorem off2 : (![0, 0] : Fin 2 → ℕ) = fun _ => 0 := by
  funext a; fin_cases a <;> rfl

/-- The blocks that point `t` reads, as its loads read them. -/
def winAt (c : Dev nD) (t : Fin cfg0.N) : Win where
  xa := View.readAt (Elt Ideal) (ms0_0 t).view (Rect.unit (s := S1x10000x128) ![0, 0, 0] S1x4096x128.size inb_S1x10000x128_S1x4096x128_0_0_0).toLoadRect ((hs0_0 t).unread (iblk m c 0 t))
  xb := View.readAt (Elt Ideal) (ms0_0 t).view (Rect.unit (s := S1x10000x128) ![0, 4096, 0] S1x4096x128.size inb_S1x10000x128_S1x4096x128_0_4096_0).toLoadRect ((hs0_0 t).unread (iblk m c 0 t))
  xc := View.readAt (Elt Ideal) (ms0_0 t).view (Rect.unit (s := S1x10000x128) ![0, 8192, 0] S1x1808x128.size inb_S1x10000x128_S1x1808x128_0_8192_0).toLoadRect ((hs0_0 t).unread (iblk m c 0 t))
  x1 := View.readAt (Elt Ideal) (ms0_1 t).view (Rect.unit (s := S1x128) ![0, 0] S1x128.size inb_S1x128_S1x128_0_0).toLoadRect ((hs0_1 t).unread (iblk m c 1 t))
  x2 := View.readAt (Elt Ideal) (ms0_2 t).view (Rect.unit (s := S1x128) ![0, 0] S1x128.size inb_S1x128_S1x128_0_0).toLoadRect ((hs0_2 t).unread (iblk m c 2 t))
  x3 := View.readAt (Elt Ideal) (ms0_3 t).view (Rect.unit (s := S1x128) ![0, 0] S1x128.size inb_S1x128_S1x128_0_0).toLoadRect ((hs0_3 t).unread (iblk m c 3 t))
  x4 := View.readAt (Elt Ideal) (ms0_4 t).view (Rect.unit (s := S1x128) ![0, 0] S1x128.size inb_S1x128_S1x128_0_0).toLoadRect ((hs0_4 t).unread (iblk m c 4 t))
  x5 := View.readAt (Elt Ideal) (ms0_5 t).view (Rect.unit (s := S128x256) ![0, 0] S128x256.size inb_S128x256_S128x256_0_0).toLoadRect ((hs0_5 t).unread (iblk m c 5 t))
  x6 := View.readAt (Elt Ideal) (ms0_6 t).view (Rect.unit (s := S128x256) ![0, 0] S128x256.size inb_S128x256_S128x256_0_0).toLoadRect ((hs0_6 t).unread (iblk m c 6 t))
  x7 := View.readAt (Elt Ideal) (ms0_7 t).view (Rect.unit (s := S1x256) ![0, 0] S1x256.size inb_S1x256_S1x256_0_0).toLoadRect ((hs0_7 t).unread (iblk m c 7 t))
  x8 := View.readAt (Elt Ideal) (ms0_8 t).view (Rect.unit (s := S256x256) ![0, 0] S256x256.size inb_S256x256_S256x256_0_0).toLoadRect ((hs0_8 t).unread (iblk m c 8 t))
  x9 := View.readAt (Elt Ideal) (ms0_9 t).view (Rect.unit (s := S256x256) ![0, 0] S256x256.size inb_S256x256_S256x256_0_0).toLoadRect ((hs0_9 t).unread (iblk m c 9 t))
  x10 := View.readAt (Elt Ideal) (ms0_10 t).view (Rect.unit (s := S256x256) ![0, 0] S256x256.size inb_S256x256_S256x256_0_0).toLoadRect ((hs0_10 t).unread (iblk m c 10 t))
  x11 := View.readAt (Elt Ideal) (ms0_11 t).view (Rect.unit (s := S1x256) ![0, 0] S1x256.size inb_S1x256_S1x256_0_0).toLoadRect ((hs0_11 t).unread (iblk m c 11 t))
  x12 := View.readAt (Elt Ideal) (ms0_12 t).view (Rect.unit (s := S1x256) ![0, 0] S1x256.size inb_S1x256_S1x256_0_0).toLoadRect ((hs0_12 t).unread (iblk m c 12 t))
  x13 := View.readAt (Elt Ideal) (ms0_13 t).view (Rect.unit (s := S1x256) ![0, 0] S1x256.size inb_S1x256_S1x256_0_0).toLoadRect ((hs0_13 t).unread (iblk m c 13 t))
  x14 := View.readAt (Elt Ideal) (ms0_14 t).view (Rect.unit (s := S1x256) ![0, 0] S1x256.size inb_S1x256_S1x256_0_0).toLoadRect ((hs0_14 t).unread (iblk m c 14 t))
  x15 := View.readAt (Elt Ideal) (ms0_15 t).view (Rect.unit (s := S128x128) ![0, 0] S128x128.size inb_S128x128_S128x128_0_0).toLoadRect ((hs0_15 t).unread (iblk m c 15 t))
  x16 := View.readAt (Elt Ideal) (ms0_16 t).view (Rect.unit (s := S128x128) ![0, 0] S128x128.size inb_S128x128_S128x128_0_0).toLoadRect ((hs0_16 t).unread (iblk m c 16 t))
  x17 := View.readAt (Elt Ideal) (ms0_17 t).view (Rect.unit (s := S1x128) ![0, 0] S1x128.size inb_S1x128_S1x128_0_0).toLoadRect ((hs0_17 t).unread (iblk m c 17 t))

/-! ## The values by the names of the run -/

/-- The run's value `cst_69`, as a value of the blocks read. -/
theorem cst69_eq : kernelRun0_A.sl.cst_69 (F := Ideal) = kC := rfl
/-- The run's value `v171`, as a value of the blocks read. -/
theorem v171_eq : kernelRun0_A.sl.v171 = kI := rfl

section names

variable (c : Dev nD) (t : Fin cfg0.N)

/-- The run's value `r`, as a value of the blocks read. -/
theorem r_eq : kernelRun0_A.sl.r c (ms0_0 t) (hs0_0 t) (iblk m c 0 t) = kS (winAt m c t) := by
  unfold kernelRun0_A.sl.r
  try simp only [cst69_eq, v171_eq]
  rfl

/-- The run's value `r_1`, as a value of the blocks read. -/
theorem r_1_eq : kernelRun0_A.sl.r_1 c (ms0_0 t) (hs0_0 t) (iblk m c 0 t) = kQ (winAt m c t) := by
  unfold kernelRun0_A.sl.r_1
  try simp only [cst69_eq, v171_eq, r_eq m c t]
  rfl

/-- The run's value `r_3`, as a value of the blocks read. -/
theorem r_3_eq : kernelRun0_A.sl.r_3 c (ms0_0 t) (hs0_0 t) (ms0_1 t) (hs0_1 t) (ms0_2 t) (hs0_2 t) (ms0_5 t) (hs0_5 t) (iblk m c 0 t) (iblk m c 1 t) (iblk m c 2 t) (iblk m c 5 t) = kM0 (winAt m c t) := by
  unfold kernelRun0_A.sl.r_3
  try simp only [cst69_eq, v171_eq, r_eq m c t, r_1_eq m c t]
  rfl

/-- The run's value `r_4`, as a value of the blocks read. -/
theorem r_4_eq : kernelRun0_A.sl.r_4 c (ms0_0 t) (hs0_0 t) (ms0_1 t) (hs0_1 t) (ms0_2 t) (hs0_2 t) (ms0_5 t) (hs0_5 t) (iblk m c 0 t) (iblk m c 1 t) (iblk m c 2 t) (iblk m c 5 t) = kZ0 (winAt m c t) := by
  unfold kernelRun0_A.sl.r_4
  try simp only [cst69_eq, v171_eq, r_eq m c t, r_1_eq m c t, r_3_eq m c t]
  rfl

/-- The run's value `r_5`, as a value of the blocks read. -/
theorem r_5_eq : kernelRun0_A.sl.r_5 c (ms0_0 t) (hs0_0 t) (ms0_1 t) (hs0_1 t) (ms0_2 t) (hs0_2 t) (ms0_5 t) (hs0_5 t) (iblk m c 0 t) (iblk m c 1 t) (iblk m c 2 t) (iblk m c 5 t) = kU0 (winAt m c t) := by
  unfold kernelRun0_A.sl.r_5
  try simp only [cst69_eq, v171_eq, r_eq m c t, r_1_eq m c t, r_3_eq m c t, r_4_eq m c t]
  rfl

/-- The run's value `r_7`, as a value of the blocks read. -/
theorem r_7_eq : kernelRun0_A.sl.r_7 c (ms0_0 t) (hs0_0 t) (ms0_1 t) (hs0_1 t) (ms0_2 t) (hs0_2 t) (ms0_5 t) (hs0_5 t) (iblk m c 0 t) (iblk m c 1 t) (iblk m c 2 t) (iblk m c 5 t) = kM1 (winAt m c t) := by
  unfold kernelRun0_A.sl.r_7
  try simp only [cst69_eq, v171_eq, r_eq m c t, r_1_eq m c t, r_3_eq m c t, r_4_eq m c t, r_5_eq m c t]
  rfl

/-- The run's value `r_8`, as a value of the blocks read. -/
theorem r_8_eq : kernelRun0_A.sl.r_8 c (ms0_0 t) (hs0_0 t) (ms0_1 t) (hs0_1 t) (ms0_2 t) (hs0_2 t) (ms0_5 t) (hs0_5 t) (iblk m c 0 t) (iblk m c 1 t) (iblk m c 2 t) (iblk m c 5 t) = kZ1 (winAt m c t) := by
  unfold kernelRun0_A.sl.r_8
  try simp only [cst69_eq, v171_eq, r_eq m c t, r_1_eq m c t, r_3_eq m c t, r_4_eq m c t, r_5_eq m c t, r_7_eq m c t]
  rfl

/-- The run's value `r_9`, as a value of the blocks read. -/
theorem r_9_eq : kernelRun0_A.sl.r_9 c (ms0_0 t) (hs0_0 t) (ms0_1 t) (hs0_1 t) (ms0_2 t) (hs0_2 t) (ms0_5 t) (hs0_5 t) (iblk m c 0 t) (iblk m c 1 t) (iblk m c 2 t) (iblk m c 5 t) = kU1 (winAt m c t) := by
  unfold kernelRun0_A.sl.r_9
  try simp only [cst69_eq, v171_eq, r_eq m c t, r_1_eq m c t, r_3_eq m c t, r_4_eq m c t, r_5_eq m c t, r_7_eq m c t, r_8_eq m c t]
  rfl

/-- The run's value `r_11`, as a value of the blocks read. -/
theorem r_11_eq : kernelRun0_A.sl.r_11 c (ms0_0 t) (hs0_0 t) (ms0_1 t) (hs0_1 t) (ms0_2 t) (hs0_2 t) (ms0_5 t) (hs0_5 t) (iblk m c 0 t) (iblk m c 1 t) (iblk m c 2 t) (iblk m c 5 t) = kE2 (winAt m c t) := by
  unfold kernelRun0_A.sl.r_11
  try simp only [cst69_eq, v171_eq, r_eq m c t, r_1_eq m c t, r_3_eq m c t, r_4_eq m c t, r_5_eq m c t, r_7_eq m c t, r_8_eq m c t, r_9_eq m c t]
  rfl

/-- The run's value `r_12`, as a value of the blocks read. -/
theorem r_12_eq : kernelRun0_A.sl.r_12 c (ms0_0 t) (hs0_0 t) (ms0_1 t) (hs0_1 t) (ms0_2 t) (hs0_2 t) (ms0_5 t) (hs0_5 t) (iblk m c 0 t) (iblk m c 1 t) (iblk m c 2 t) (iblk m c 5 t) = kZ2 (winAt m c t) := by
  unfold kernelRun0_A.sl.r_12
  try simp only [cst69_eq, v171_eq, r_eq m c t, r_1_eq m c t, r_3_eq m c t, r_4_eq m c t, r_5_eq m c t, r_7_eq m c t, r_8_eq m c t, r_9_eq m c t, r_11_eq m c t]
  rfl

/-- The run's value `r_13`, as a value of the blocks read. -/
theorem r_13_eq : kernelRun0_A.sl.r_13 c (ms0_0 t) (hs0_0 t) (ms0_1 t) (hs0_1 t) (ms0_2 t) (hs0_2 t) (ms0_5 t) (hs0_5 t) (iblk m c 0 t) (iblk m c 1 t) (iblk m c 2 t) (iblk m c 5 t) = kU2 (winAt m c t) := by
  unfold kernelRun0_A.sl.r_13
  try simp only [cst69_eq, v171_eq, r_eq m c t, r_1_eq m c t, r_3_eq m c t, r_4_eq m c t, r_5_eq m c t, r_7_eq m c t, r_8_eq m c t, r_9_eq m c t, r_11_eq m c t, r_12_eq m c t]
  rfl

/-- The run's value `r_14`, as a value of the blocks read. -/
theorem r_14_eq : kernelRun0_A.sl.r_14 c (ms0_0 t) (hs0_0 t) (ms0_1 t) (hs0_1 t) (ms0_2 t) (hs0_2 t) (ms0_5 t) (hs0_5 t) (iblk m c 0 t) (iblk m c 1 t) (iblk m c 2 t) (iblk m c 5 t) = kD (winAt m c t) := by
  unfold kernelRun0_A.sl.r_14
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t]
  rfl

/-- The run's value `r_15`, as a value of the blocks read. -/
theorem r_15_eq : kernelRun0_A.sl.r_15 c (ms0_10 t) (hs0_10 t) (iblk m c 10 t) = kW (winAt m c t) := by
  unfold kernelRun0_A.sl.r_15
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t]
  rfl

/-- The run's value `r_16`, as a value of the blocks read. -/
theorem r_16_eq : kernelRun0_A.sl.r_16 c (ms0_0 t) (hs0_0 t) (ms0_1 t) (hs0_1 t) (ms0_2 t) (hs0_2 t) (ms0_5 t) (hs0_5 t) (ms0_8 t) (hs0_8 t) (iblk m c 0 t) (iblk m c 1 t) (iblk m c 2 t) (iblk m c 5 t) (iblk m c 8 t) = kP (winAt m c t) := by
  unfold kernelRun0_A.sl.r_16
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t]
  rfl

/-- The run's value `r_17`, as a value of the blocks read. -/
theorem r_17_eq : kernelRun0_A.sl.r_17 c (ms0_0 t) (hs0_0 t) (ms0_1 t) (hs0_1 t) (ms0_2 t) (hs0_2 t) (ms0_5 t) (hs0_5 t) (ms0_9 t) (hs0_9 t) (iblk m c 0 t) (iblk m c 1 t) (iblk m c 2 t) (iblk m c 5 t) (iblk m c 9 t) = kN (winAt m c t) := by
  unfold kernelRun0_A.sl.r_17
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t]
  rfl

/-- The run's value `r_19`, as a value of the blocks read. -/
theorem r_19_eq : kernelRun0_A.sl.r_19 c (ms0_11 t) (hs0_11 t) (ms0_12 t) (hs0_12 t) (iblk m c 11 t) (iblk m c 12 t) = kB1 (winAt m c t) := by
  unfold kernelRun0_A.sl.r_19
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t]
  rfl

/-- The run's value `r_20`, as a value of the blocks read. -/
theorem r_20_eq : kernelRun0_A.sl.r_20 c (ms0_13 t) (hs0_13 t) (ms0_14 t) (hs0_14 t) (iblk m c 13 t) (iblk m c 14 t) = kB2 (winAt m c t) := by
  unfold kernelRun0_A.sl.r_20
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t, r_19_eq m c t]
  rfl

/-- The run's value `r_21`, as a value of the blocks read. -/
theorem r_21_eq : kernelRun0_A.sl.r_21 c (ms0_0 t) (hs0_0 t) (ms0_1 t) (hs0_1 t) (ms0_2 t) (hs0_2 t) (ms0_5 t) (hs0_5 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 5 t) (iblk m c 8 t) (iblk m c 9 t) (iblk m c 10 t) (iblk m c 11 t) (iblk m c 12 t) (iblk m c 13 t) (iblk m c 14 t) = kG1 (winAt m c t) := by
  unfold kernelRun0_A.sl.r_21
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t, r_19_eq m c t, r_20_eq m c t]
  rfl

/-- The run's value `r_22`, as a value of the blocks read. -/
theorem r_22_eq : kernelRun0_A.sl.r_22 c (ms0_0 t) (hs0_0 t) (ms0_1 t) (hs0_1 t) (ms0_2 t) (hs0_2 t) (ms0_5 t) (hs0_5 t) (iblk m c 0 t) (iblk m c 1 t) (iblk m c 2 t) (iblk m c 5 t) = kL1 (winAt m c t) := by
  unfold kernelRun0_A.sl.r_22
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t, r_19_eq m c t, r_20_eq m c t, r_21_eq m c t]
  rfl

/-- The run's value `r_23`, as a value of the blocks read. -/
theorem r_23_eq : kernelRun0_A.sl.r_23 c (ms0_0 t) (hs0_0 t) (ms0_1 t) (hs0_1 t) (ms0_2 t) (hs0_2 t) (ms0_5 t) (hs0_5 t) (iblk m c 0 t) (iblk m c 1 t) (iblk m c 2 t) (iblk m c 5 t) = kH1 (winAt m c t) := by
  unfold kernelRun0_A.sl.r_23
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t, r_19_eq m c t, r_20_eq m c t, r_21_eq m c t, r_22_eq m c t]
  rfl

/-- The run's value `v291`, as a value of the blocks read. -/
theorem v291_eq : kernelRun0_A.sl.v291 c (ms0_0 t) (hs0_0 t) (ms0_1 t) (hs0_1 t) (ms0_2 t) (hs0_2 t) (ms0_5 t) (hs0_5 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 5 t) (iblk m c 8 t) (iblk m c 9 t) (iblk m c 10 t) (iblk m c 11 t) (iblk m c 12 t) (iblk m c 13 t) (iblk m c 14 t) = kG3 (winAt m c t) := by
  unfold kG3
  rw [← v171_eq, ← r_15_eq m c t, ← r_16_eq m c t, ← r_17_eq m c t, ← r_19_eq m c t, ← r_20_eq m c t, ← r_21_eq m c t, ← r_22_eq m c t, ← r_23_eq m c t]
  rfl

/-- The run's value `v293`, as a value of the blocks read. -/
theorem v293_eq : kernelRun0_A.sl.v293 c (ms0_0 t) (hs0_0 t) (ms0_1 t) (hs0_1 t) (ms0_2 t) (hs0_2 t) (ms0_5 t) (hs0_5 t) (iblk m c 0 t) (iblk m c 1 t) (iblk m c 2 t) (iblk m c 5 t) = kL3 (winAt m c t) := by
  unfold kL3
  rw [← v171_eq, ← r_22_eq m c t, ← r_23_eq m c t]
  rfl

/-- The run's value `v317`, as a value of the blocks read. -/
theorem v317_eq : kernelRun0_A.sl.v317 c (ms0_0 t) (hs0_0 t) (ms0_1 t) (hs0_1 t) (ms0_2 t) (hs0_2 t) (ms0_5 t) (hs0_5 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 5 t) (iblk m c 8 t) (iblk m c 9 t) (iblk m c 10 t) (iblk m c 11 t) (iblk m c 12 t) (iblk m c 13 t) (iblk m c 14 t) = kG4 (winAt m c t) := by
  unfold kG4
  rw [← v171_eq, ← r_15_eq m c t, ← r_16_eq m c t, ← r_17_eq m c t, ← r_19_eq m c t, ← r_20_eq m c t, ← v291_eq m c t, ← v293_eq m c t]
  rfl

/-- The run's value `v319`, as a value of the blocks read. -/
theorem v319_eq : kernelRun0_A.sl.v319 c (ms0_0 t) (hs0_0 t) (ms0_1 t) (hs0_1 t) (ms0_2 t) (hs0_2 t) (ms0_5 t) (hs0_5 t) (iblk m c 0 t) (iblk m c 1 t) (iblk m c 2 t) (iblk m c 5 t) = k0_pay51 (F := Ideal) kI (kL3 (winAt m c t)) := by
  rw [← v171_eq, ← v293_eq m c t]
  rfl

/-- The run's value `v329`, as a value of the blocks read. -/
theorem v329_eq : kernelRun0_A.sl.v329 c (ms0_0 t) (hs0_0 t) (ms0_1 t) (hs0_1 t) (ms0_2 t) (hs0_2 t) (ms0_5 t) (hs0_5 t) (iblk m c 0 t) (iblk m c 1 t) (iblk m c 2 t) (iblk m c 5 t) = k0_pay52 (F := Ideal) kI (kL3 (winAt m c t)) := by
  rw [← v171_eq, ← v293_eq m c t]
  rfl

/-- The run's value `v340`, as a value of the blocks read. -/
theorem v340_eq : kernelRun0_A.sl.v340 c (ms0_0 t) (hs0_0 t) (ms0_1 t) (hs0_1 t) (ms0_2 t) (hs0_2 t) (ms0_5 t) (hs0_5 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 5 t) (iblk m c 8 t) (iblk m c 9 t) (iblk m c 10 t) (iblk m c 11 t) (iblk m c 12 t) (iblk m c 13 t) (iblk m c 14 t) = k0_pay53 kI (kW (winAt m c t)) (kP (winAt m c t)) (kN (winAt m c t)) (kB1 (winAt m c t)) (kB2 (winAt m c t)) (kL3 (winAt m c t)) := by
  rw [← v171_eq, ← r_15_eq m c t, ← r_16_eq m c t, ← r_17_eq m c t, ← r_19_eq m c t, ← r_20_eq m c t, ← v293_eq m c t]
  rfl

/-- The run's value `r_24`, as a value of the blocks read. -/
theorem r_24_eq : kernelRun0_A.sl.r_24 c (ms0_0 t) (hs0_0 t) (ms0_1 t) (hs0_1 t) (ms0_2 t) (hs0_2 t) (ms0_5 t) (hs0_5 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_16 t) (hs0_16 t) (iblk m c 0 t) (iblk m c 1 t) (iblk m c 2 t) (iblk m c 5 t) (iblk m c 8 t) (iblk m c 9 t) (iblk m c 10 t) (iblk m c 11 t) (iblk m c 12 t) (iblk m c 13 t) (iblk m c 14 t) (iblk m c 16 t) = kA (winAt m c t) := by
  unfold kernelRun0_A.sl.r_24
  try simp only [cst69_eq, v171_eq, r_eq m c t, r_1_eq m c t, r_3_eq m c t, r_4_eq m c t, r_5_eq m c t, r_7_eq m c t, r_8_eq m c t, r_9_eq m c t, r_11_eq m c t, r_12_eq m c t, r_13_eq m c t, r_14_eq m c t, r_15_eq m c t, r_16_eq m c t, r_17_eq m c t, r_19_eq m c t, r_20_eq m c t, r_21_eq m c t, r_22_eq m c t, r_23_eq m c t, v291_eq m c t, v293_eq m c t, v317_eq m c t, v319_eq m c t, v329_eq m c t, v340_eq m c t]
  rfl

/-- The run's value `r_29`, as a value of the blocks read. -/
theorem r_29_eq : kernelRun0_A.sl.r_29 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = k0_pay58 (kA (winAt m c t)) (k0_pay55 (winAt m c t).xa) (k0_pay56 (kS (winAt m c t))) (k0_pay57 (kS (winAt m c t)) (kQ (winAt m c t))) (winAt m c t).x3 (winAt m c t).x4 (winAt m c t).x6 (winAt m c t).x7 (winAt m c t).x15 (winAt m c t).x17 := by
  unfold kernelRun0_A.sl.r_29
  try simp only [kernelRun0_A.sl.r_25, kernelRun0_A.sl.r_26, kernelRun0_A.sl.r_27, kernelRun0_A.sl.r_28, kernelRun0_A.sl.r_33, kernelRun0_A.sl.r_34, kernelRun0_A.sl.r_35, kernelRun0_A.sl.r_36, r_eq m c t, r_1_eq m c t, r_24_eq m c t]
  rfl

/-- The run's value `r_30`, as a value of the blocks read. -/
theorem r_30_eq : kernelRun0_A.sl.r_30 c (ms0_0 t) (hs0_0 t) (iblk m c 0 t) = k0_pay60 (winAt m c t).xb := by
  unfold kernelRun0_A.sl.r_30
  try simp only [kernelRun0_A.sl.r_25, kernelRun0_A.sl.r_26, kernelRun0_A.sl.r_27, kernelRun0_A.sl.r_28, kernelRun0_A.sl.r_33, kernelRun0_A.sl.r_34, kernelRun0_A.sl.r_35, kernelRun0_A.sl.r_36, r_eq m c t, r_1_eq m c t, r_24_eq m c t]
  rfl

/-- The run's value `r_31`, as a value of the blocks read. -/
theorem r_31_eq : kernelRun0_A.sl.r_31 c (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 6 t) (iblk m c 7 t) = k0_pay61 (kS (winAt m c t)) (kQ (winAt m c t)) (winAt m c t).xb (winAt m c t).x3 (winAt m c t).x4 (winAt m c t).x6 (winAt m c t).x7 := by
  unfold kernelRun0_A.sl.r_31
  try simp only [kernelRun0_A.sl.r_25, kernelRun0_A.sl.r_26, kernelRun0_A.sl.r_27, kernelRun0_A.sl.r_28, kernelRun0_A.sl.r_33, kernelRun0_A.sl.r_34, kernelRun0_A.sl.r_35, kernelRun0_A.sl.r_36, r_eq m c t, r_1_eq m c t, r_24_eq m c t]
  rfl

/-- The run's value `r_32`, as a value of the blocks read. -/
theorem r_32_eq : kernelRun0_A.sl.r_32 c (ms0_0 t) (hs0_0 t) (ms0_3 t) (hs0_3 t) (ms0_4 t) (hs0_4 t) (ms0_6 t) (hs0_6 t) (ms0_7 t) (hs0_7 t) (iblk m c 0 t) (iblk m c 3 t) (iblk m c 4 t) (iblk m c 6 t) (iblk m c 7 t) = k0_pay62 (kS (winAt m c t)) (kQ (winAt m c t)) (winAt m c t).xb (winAt m c t).x3 (winAt m c t).x4 (winAt m c t).x6 (winAt m c t).x7 := by
  unfold kernelRun0_A.sl.r_32
  try simp only [kernelRun0_A.sl.r_25, kernelRun0_A.sl.r_26, kernelRun0_A.sl.r_27, kernelRun0_A.sl.r_28, kernelRun0_A.sl.r_33, kernelRun0_A.sl.r_34, kernelRun0_A.sl.r_35, kernelRun0_A.sl.r_36, r_eq m c t, r_1_eq m c t, r_24_eq m c t]
  rfl

/-- The run's value `r_37`, as a value of the blocks read. -/
theorem r_37_eq : kernelRun0_A.sl.r_37 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = k0_pay69 (kA (winAt m c t)) (k0_pay64 (winAt m c t).xc) (k0_pay66 (kS (winAt m c t)) (kQ (winAt m c t)) (winAt m c t).x3) (k0_pay67 (winAt m c t).x4) (k0_pay68 (kS (winAt m c t)) (kQ (winAt m c t)) (winAt m c t).x3) (winAt m c t).x6 (winAt m c t).x7 (winAt m c t).x15 (winAt m c t).x17 := by
  unfold kernelRun0_A.sl.r_37
  try simp only [kernelRun0_A.sl.r_25, kernelRun0_A.sl.r_26, kernelRun0_A.sl.r_27, kernelRun0_A.sl.r_28, kernelRun0_A.sl.r_33, kernelRun0_A.sl.r_34, kernelRun0_A.sl.r_35, kernelRun0_A.sl.r_36, r_eq m c t, r_1_eq m c t, r_24_eq m c t]
  rfl

end names

/-- The output block after point `t` is any function whose three row chunks are the three that the point computes. -/
theorem point_eq (c : Dev nD) (t : Fin cfg0.N) (G : S1x10000x128.Idx → Ideal .f32)
    (h0 : ∀ x, kOut0 (winAt m c t) x = G ((Rect.unit (s := S1x10000x128) ![0, 0, 0] S1x4096x128.size inb_S1x10000x128_S1x4096x128_0_0_0).emb x))
    (h1 : ∀ x, kOut1 (winAt m c t) x = G ((Rect.unit (s := S1x10000x128) ![0, 4096, 0] S1x4096x128.size inb_S1x10000x128_S1x4096x128_0_4096_0).emb x))
    (h2 : ∀ x, kOut2 (winAt m c t) x = G ((Rect.unit (s := S1x10000x128) ![0, 8192, 0] S1x1808x128.size inb_S1x10000x128_S1x1808x128_0_8192_0).emb x))
    (y : S1x10000x128.Idx) : outsAt0 (F := Ideal) m c t y = G y := by
  unfold outsAt0 out0_A_18
  refine View.read_writes_apply_of_pieces (Val := Elt Ideal) _ _ G _ ?_ y (cover0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y)
  unfold kernelRun0_A
  dsimp only
  refine List.forall_mem_cons.2 ⟨?_, List.forall_mem_cons.2 ⟨?_, List.forall_mem_cons.2 ⟨?_, fun _ h => absurd h List.not_mem_nil⟩⟩⟩
  · dsimp only
    rw [r_37_eq m c t]
    exact h2
  · dsimp only
    rw [r_24_eq m c t, r_30_eq m c t, r_31_eq m c t, r_32_eq m c t]
    exact h1
  · dsimp only
    rw [r_29_eq m c t]
    exact h0

end Cert.Proof

end
-- ==== Proof.Spec.lean ====
/- The arguments as real numbers, the reference's formula over them, and that the kernel's real formula is that one. -/
module

public import proofs.«01_k».proof.Proof.KBlock

@[expose] public section

noncomputable section

namespace Cert.Proof

open Idealize.ShloMosaic Cert.KernelIdeal

/-- The real numbers in the arguments, all but the last bias. -/
structure Args where
  (data : Fin 4 → Fin 128 → Fin 10000 → ℝ) (gd bd : Fin 128 → ℝ) (wd : Fin 256 → Fin 128 → ℝ) (sd : Fin 256 → ℝ)
  (gu bu : Fin 128 → ℝ) (wu : Fin 256 → Fin 128 → ℝ) (su : Fin 256 → ℝ)
  (w1 : Fin 256 → Fin 512 → ℝ) (b1 g1 e1 : Fin 256 → ℝ) (w2 : Fin 256 → Fin 256 → ℝ) (b2 g2 e2 : Fin 256 → ℝ)
  (ws : Fin 128 → Fin 256 → ℝ)

/-- The argument arrays, all but the last bias, hold those real numbers. -/
structure Args.Are (A : Args) (a0 : Vec Ideal S4x128x10000x1 .f32) (a1 a2 : Vec Ideal S128 .f32) (a3 : Vec Ideal S256x128 .f32)
    (a4 : Vec Ideal S256 .f32) (a5 a6 : Vec Ideal S128 .f32) (a7 : Vec Ideal S256x128 .f32) (a8 : Vec Ideal S256 .f32)
    (a9 : Vec Ideal S256x512 .f32) (a10 a11 a12 : Vec Ideal S256 .f32) (a13 : Vec Ideal S256x256 .f32) (a14 a15 a16 : Vec Ideal S256 .f32)
    (a17 : Vec Ideal S128x256 .f32) : Prop where
  h0 : ∀ b c n, a0 (ix4 b c n 0) = (A.data b c n : EReal)
  h1 : ∀ c, a1 (ix1 c) = (A.gd c : EReal)
  h2 : ∀ c, a2 (ix1 c) = (A.bd c : EReal)
  h3 : ∀ k c, a3 (ix2 k c) = (A.wd k c : EReal)
  h4 : ∀ k, a4 (ix1 k) = (A.sd k : EReal)
  h5 : ∀ c, a5 (ix1 c) = (A.gu c : EReal)
  h6 : ∀ c, a6 (ix1 c) = (A.bu c : EReal)
  h7 : ∀ k c, a7 (ix2 k c) = (A.wu k c : EReal)
  h8 : ∀ k, a8 (ix1 k) = (A.su k : EReal)
  h9 : ∀ k i, a9 (ix2 k i) = (A.w1 k i : EReal)
  h10 : ∀ k, a10 (ix1 k) = (A.b1 k : EReal)
  h11 : ∀ k, a11 (ix1 k) = (A.g1 k : EReal)
  h12 : ∀ k, a12 (ix1 k) = (A.e1 k : EReal)
  h13 : ∀ k i, a13 (ix2 k i) = (A.w2 k i : EReal)
  h14 : ∀ k, a14 (ix1 k) = (A.b2 k : EReal)
  h15 : ∀ k, a15 (ix1 k) = (A.g2 k : EReal)
  h16 : ∀ k, a16 (ix1 k) = (A.e2 k : EReal)
  h17 : ∀ o a, a17 (ix2 o a) = (A.ws o a : EReal)

namespace Args

variable (A : Args) (b : Fin 4)

/-! ## The reference's formula -/

/-- The pooling scores of batch `b`. -/
def emb (n : Fin 10000) (k : Fin 256) : ℝ := ∑ c, act (A.gd c) (A.bd c) (snorm (A.data b c) n) * A.wd k c + A.sd k
/-- The pooled features. -/
def xt (c : Fin 128) (k : Fin 256) : ℝ := ∑ n, A.data b c n * smax (fun n => A.emb b n k) n
/-- The neighbour of channel `a` of rank `j`. -/
def nb (a j : Fin 128) : Fin 128 := sel (kpd (A.xt b) a) j
/-- The first layer of channel `a` for the neighbour `p`. -/
def l1 (a p : Fin 128) (o : Fin 256) : ℝ :=
  act (A.g1 o) (A.e1 o) (∑ i : Fin 256, A.xt b a i * A.w1 o (i.castAdd 256)
    + ∑ i : Fin 256, (A.xt b a i - A.xt b p i) * A.w1 o (i.natAdd 256) + A.b1 o)
/-- The second layer. -/
def l2 (a p : Fin 128) (k : Fin 256) : ℝ := act (A.g2 k) (A.e2 k) (∑ o, A.l1 b a p o * A.w2 k o + A.b2 k)
/-- The largest second layer of the six nearest neighbours. -/
def gm (a : Fin 128) (k : Fin 256) : ℝ :=
  max (max (max (max (max (A.l2 b a (A.nb b a 0) k) (A.l2 b a (A.nb b a 1) k)) (A.l2 b a (A.nb b a 2) k)) (A.l2 b a (A.nb b a 3) k))
    (A.l2 b a (A.nb b a 4) k)) (A.l2 b a (A.nb b a 5) k)
/-- The unpooling scores. -/
def emb2 (n : Fin 10000) (k : Fin 256) : ℝ := ∑ c, act (A.gu c) (A.bu c) (snorm (A.data b c) n) * A.wu k c + A.su k
/-- The unpooled features. -/
def up (a : Fin 128) (n : Fin 10000) : ℝ := ∑ k, A.gm b a k * smax (fun k => A.emb2 b n k) k
/-- The result, without the last bias. -/
def out (o : Fin 128) (n : Fin 10000) : ℝ :=
  ∑ c : Fin 128, A.data b c n * A.ws o (c.castAdd 128) + ∑ a : Fin 128, A.up b a n * A.ws o (a.natAdd 128)

/-! ## The kernel's formula is the reference's -/

/-- The numbers that a grid point reads, from the arguments. -/
def nums : Nums where
  x n c := A.data b c n
  gd := A.gd
  bd := A.bd
  gu := A.gu
  bu := A.bu
  wd c k := A.wd k c
  wu c k := A.wu k c
  bias := A.su
  m1 i k := A.w1 k (i.castAdd 256) * A.g1 k + A.w1 k (i.natAdd 256) * A.g1 k
  a2 i k := A.w1 k (i.natAdd 256) * A.g1 k
  w2 i k := A.w2 k i * A.g2 k
  b1 k := A.b1 k * A.g1 k
  e1 := A.e1
  b2 k := A.b2 k * A.g2 k
  e2 := A.e2
  v1 c o := A.ws o (c.castAdd 128)
  v2 o a := A.ws o (a.natAdd 128)

/-- The rectified entry with the scale as a factor instead of a divisor. -/
theorem act_eq (g e v : ℝ) : act g e v = max (v * g * bns + e) 0 := by
  unfold act bns; rw [div_eq_mul_inv]; congr 2; ring

/-- The kernel's pooling scores leave out the bias, which does not depend on the point. -/
theorem nums_e (n : Fin 10000) (k : Fin 256) : (A.nums b).e n k = A.emb b n k - A.sd k := by
  unfold emb
  rw [add_sub_cancel_right]
  unfold Nums.e kemb
  exact Finset.sum_congr rfl fun c _ => congrArg (· * A.wd k c) (kact_eq (A.data b c) (A.gd c) (A.bd c) n)

/-- The kernel's pooled features are the reference's. -/
theorem nums_xt : (A.nums b).xt = A.xt b := by
  funext c k
  unfold Nums.xt xt
  refine Finset.sum_congr rfl fun n _ => congrArg (A.data b c n * ·) ?_
  simp only [nums_e]
  exact smax_shift (fun n => A.emb b n k) (A.sd k) n

/-- The kernel's first layer, with the neighbour's own weights split off, is the reference's. -/
theorem nums_l1 (a p : Fin 128) (o : Fin 256) :
    max (∑ i, A.xt b a i * ((A.nums b).m1 i o * bns) - ∑ i, A.xt b p i * ((A.nums b).a2 i o * bns) + ((A.nums b).b1 o * bns + (A.nums b).e1 o)) 0
      = A.l1 b a p o := by
  unfold l1
  rw [act_eq]
  have key : ∑ i, A.xt b a i * ((A.nums b).m1 i o * bns) - ∑ i, A.xt b p i * ((A.nums b).a2 i o * bns)
      = (∑ i : Fin 256, A.xt b a i * A.w1 o (i.castAdd 256) + ∑ i : Fin 256, (A.xt b a i - A.xt b p i) * A.w1 o (i.natAdd 256)) * A.g1 o * bns := by
    rw [← Finset.sum_sub_distrib, ← Finset.sum_add_distrib, Finset.sum_mul, Finset.sum_mul]
    refine Finset.sum_congr rfl fun i _ => ?_
    show A.xt b a i * ((A.w1 o (i.castAdd 256) * A.g1 o + A.w1 o (i.natAdd 256) * A.g1 o) * bns) - A.xt b p i * ((A.w1 o (i.natAdd 256) * A.g1 o) * bns) = _
    ring
  rw [key]
  refine congrArg (fun t => max t 0) ?_
  show _ + (A.b1 o * A.g1 o * bns + A.e1 o) = _
  ring

/-- The kernel's second layer is the reference's. -/
theorem nums_g (a p : Fin 128) (k : Fin 256) : (A.nums b).g a p k = A.l2 b a p k := by
  unfold Nums.g kg l2
  rw [act_eq, nums_xt]
  simp only [nums_l1]
  have key : ∑ o, A.l1 b a p o * ((A.nums b).w2 o k * bns) = (∑ o, A.l1 b a p o * A.w2 k o) * A.g2 k * bns := by
    rw [Finset.sum_mul, Finset.sum_mul]
    refine Finset.sum_congr rfl fun o _ => ?_
    show A.l1 b a p o * (A.w2 k o * A.g2 k * bns) = _
    ring
  rw [key]
  refine congrArg (fun t => max t 0) ?_
  show _ + (A.b2 k * A.g2 k * bns + A.e2 k) = _
  ring

/-- The kernel's largest second layer is the reference's. -/
theorem nums_gm (a : Fin 128) (k : Fin 256) : (A.nums b).gm a k = A.gm b a k := by
  unfold Nums.gm gm
  simp only [nums_g, Nums.nb, nums_xt, nb]

/-- The kernel's output is the reference's. -/
theorem nums_out (n : Fin 10000) (o : Fin 128) : (A.nums b).out n o = A.out b o n := by
  unfold Nums.out kout out
  simp only [nums_gm]
  refine congrArg₂ (· + ·) rfl ?_
  have e : ∀ k, kemb (A.nums b).s (A.nums b).q (A.nums b).gu (A.nums b).bu (A.nums b).wu (A.nums b).x n k + (A.nums b).bias k = A.emb2 b n k :=
    fun k => congrArg (· + A.su k) (Finset.sum_congr rfl fun c _ => congrArg (· * A.wu k c) (kact_eq (A.data b c) (A.gu c) (A.bu c) n))
  simp only [e, up, Finset.mul_sum, Finset.sum_mul]
  rw [Finset.sum_comm]
  refine Finset.sum_congr rfl fun a _ => Finset.sum_congr rfl fun k _ => ?_
  show smax _ k * (A.gm b a k * A.ws o (a.natAdd 128)) = _
  ring

end Args

end Cert.Proof

end
-- ==== Proof.KRead.lean ====
/- What the windows read: each operand's block is the operand's array, and the arrays are read off the arguments. -/
module

public import proofs.«01_k».proof.Proof.KPoint
public import proofs.«01_k».proof.Proof.Spec

@[expose] public section

noncomputable section

namespace Cert.Proof

open Idealize.ShloMosaic Cert.KernelIdeal Cert.KernelIdeal.Gen Idealize.ShloMosaic.TcCoe

variable (m : (ℓ : Loc nD τ sig) → Buf (Elt Ideal) ℓ)

/-! ## The blocks -/

/-- Point `t` takes the data's block `t`, whole in the other axes. -/
theorem idx0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)

/-- Point `t` writes the result's block `t`, whole in the other axes. -/
theorem idx18 : ∀ t : Fin cfg0.N, win0_18.index t (0 : Fin 3) = t.val ∧ win0_18.index t (1 : Fin 3) = 0 ∧ win0_18.index t (2 : Fin 3) = 0 :=
  (by decide +kernel : ∀ t : Fin grid0.N, win0_18.index t (0 : Fin 3) = t.val ∧ win0_18.index t (1 : Fin 3) = 0 ∧ win0_18.index t (2 : Fin 3) = 0)

/-- The grid has four points. -/
theorem point_lt (t : Fin cfg0.N) : t.val < 4 := t.isLt

/-- A row of the data's block is the row of the batch entry that the point is at. -/
theorem iblk0_at (c : Dev nD) (t : Fin cfg0.N) (n : Fin 10000) (k : Fin 128) :
    iblk m c 0 t (ix3 (0 : Fin 1) n k) = V m c main_v1 (ix3 ⟨t.val, point_lt t⟩ n k) := by
  obtain ⟨e0, e1, e2⟩ := idx0 t
  show V m c main_v1 (((cfg0.win 0).blk t).view.emb (ix3 (0 : Fin 1) n k)) = _
  refine congrArg _ ?_
  funext a; apply Fin.ext
  match a with
  | ⟨0, _⟩ => show win0_0.index t (0 : Fin 3) * 1 + 1 * 0 = t.val; omega
  | ⟨1, _⟩ => show win0_0.index t (1 : Fin 3) * 10000 + 1 * n.val = n.val; omega
  | ⟨2, _⟩ => show win0_0.index t (2 : Fin 3) * 128 + 1 * k.val = k.val; omega

/-- Operand 1's block is its array. -/
theorem iblk1_eq (c : Dev nD) (t : Fin cfg0.N) : iblk m c 1 t = V m c main_v18 := by
  have hi : ∀ t : Fin cfg0.N, win0_1.index t (0 : Fin 2) = 0 ∧ win0_1.index t (1 : Fin 2) = 0 :=
    (by decide +kernel : ∀ t : Fin grid0.N, win0_1.index t (0 : Fin 2) = 0 ∧ win0_1.index t (1 : Fin 2) = 0)
  obtain ⟨e0, e1⟩ := hi t
  funext j
  show V m c main_v18 (((cfg0.win 1).blk t).view.emb j) = _
  refine congrArg _ ?_
  funext a; apply Fin.ext
  match a with
  | ⟨0, _⟩ => show win0_1.index t (0 : Fin 2) * 1 + 1 * (j 0).val = (j 0).val; omega
  | ⟨1, _⟩ => show win0_1.index t (1 : Fin 2) * 128 + 1 * (j 1).val = (j 1).val; omega

/-- Operand 2's block is its array. -/
theorem iblk2_eq (c : Dev nD) (t : Fin cfg0.N) : iblk m c 2 t = V m c main_v19 := by
  have hi : ∀ t : Fin cfg0.N, win0_2.index t (0 : Fin 2) = 0 ∧ win0_2.index t (1 : Fin 2) = 0 :=
    (by decide +kernel : ∀ t : Fin grid0.N, win0_2.index t (0 : Fin 2) = 0 ∧ win0_2.index t (1 : Fin 2) = 0)
  obtain ⟨e0, e1⟩ := hi t
  funext j
  show V m c main_v19 (((cfg0.win 2).blk t).view.emb j) = _
  refine congrArg _ ?_
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- Operand 3's block is its array. -/
theorem iblk3_eq (c : Dev nD) (t : Fin cfg0.N) : iblk m c 3 t = V m c main_v20 := by
  have hi : ∀ t : Fin cfg0.N, win0_3.index t (0 : Fin 2) = 0 ∧ win0_3.index t (1 : Fin 2) = 0 :=
    (by decide +kernel : ∀ t : Fin grid0.N, win0_3.index t (0 : Fin 2) = 0 ∧ win0_3.index t (1 : Fin 2) = 0)
  obtain ⟨e0, e1⟩ := hi t
  funext j
  show V m c main_v20 (((cfg0.win 3).blk t).view.emb j) = _
  refine congrArg _ ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Operand 4's block is its array. -/
theorem iblk4_eq (c : Dev nD) (t : Fin cfg0.N) : iblk m c 4 t = V m c main_v21 := by
  have hi : ∀ t : Fin cfg0.N, win0_4.index t (0 : Fin 2) = 0 ∧ win0_4.index t (1 : Fin 2) = 0 :=
    (by decide +kernel : ∀ t : Fin grid0.N, win0_4.index t (0 : Fin 2) = 0 ∧ win0_4.index t (1 : Fin 2) = 0)
  obtain ⟨e0, e1⟩ := hi t
  funext j
  show V m c main_v21 (((cfg0.win 4).blk t).view.emb j) = _
  refine congrArg _ ?_
  funext a; apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Operand 5's block is its array. -/
theorem iblk5_eq (c : Dev nD) (t : Fin cfg0.N) : iblk m c 5 t = V m c main_v22 := by
  have hi : ∀ t : Fin cfg0.N, win0_5.index t (0 : Fin 2) = 0 ∧ win0_5.index t (1 : Fin 2) = 0 :=
    (by decide +kernel : ∀ t : Fin grid0.N, win0_5.index t (0 : Fin 2) = 0 ∧ win0_5.index t (1 : Fin 2) = 0)
  obtain ⟨e0, e1⟩ := hi t
  funext j
  show V m c main_v22 (((cfg0.win 5).blk t).view.emb j) = _
  refine congrArg _ ?_
  funext a; apply Fin.ext
  match a with
  | ⟨0, _⟩ => show win0_5.index t (0 : Fin 2) * 128 + 1 * (j 0).val = (j 0).val; omega
  | ⟨1, _⟩ => show win0_5.index t (1 : Fin 2) * 256 + 1 * (j 1).val = (j 1).val; omega

/-- Operand 6's block is its array. -/
theorem iblk6_eq (c : Dev nD) (t : Fin cfg0.N) : iblk m c 6 t = V m c main_v23 := by
  have hi : ∀ t : Fin cfg0.N, win0_6.index t (0 : Fin 2) = 0 ∧ win0_6.index t (1 : Fin 2) = 0 :=
    (by decide +kernel : ∀ t : Fin grid0.N, win0_6.index t (0 : Fin 2) = 0 ∧ win0_6.index t (1 : Fin 2) = 0)
  obtain ⟨e0, e1⟩ := hi t
  funext j
  show V m c main_v23 (((cfg0.win 6).blk t).view.emb j) = _
  refine congrArg _ ?_
  funext a; apply Fin.ext
  match a with
  | ⟨0, _⟩ => show win0_6.index t (0 : Fin 2) * 128 + 1 * (j 0).val = (j 0).val; omega
  | ⟨1, _⟩ => show win0_6.index t (1 : Fin 2) * 256 + 1 * (j 1).val = (j 1).val; omega

/-- Operand 7's block is its array. -/
theorem iblk7_eq (c : Dev nD) (t : Fin cfg0.N) : iblk m c 7 t = V m c main_v24 := by
  have hi : ∀ t : Fin cfg0.N, win0_7.index t (0 : Fin 2) = 0 ∧ win0_7.index t (1 : Fin 2) = 0 :=
    (by decide +kernel : ∀ t : Fin grid0.N, win0_7.index t (0 : Fin 2) = 0 ∧ win0_7.index t (1 : Fin 2) = 0)
  obtain ⟨e0, e1⟩ := hi t
  funext j
  show V m c main_v24 (((cfg0.win 7).blk t).view.emb j) = _
  refine congrArg _ ?_
  funext a; apply Fin.ext
  match a with
  | ⟨0, _⟩ => show win0_7.index t (0 : Fin 2) * 1 + 1 * (j 0).val = (j 0).val; omega
  | ⟨1, _⟩ => show win0_7.index t (1 : Fin 2) * 256 + 1 * (j 1).val = (j 1).val; omega

/-- Operand 8's block is its array. -/
theorem iblk8_eq (c : Dev nD) (t : Fin cfg0.N) : iblk m c 8 t = V m c main_v16 := by
  have hi : ∀ t : Fin cfg0.N, win0_8.index t (0 : Fin 2) = 0 ∧ win0_8.index t (1 : Fin 2) = 0 :=
    (by decide +kernel : ∀ t : Fin grid0.N, win0_8.index t (0 : Fin 2) = 0 ∧ win0_8.index t (1 : Fin 2) = 0)
  obtain ⟨e0, e1⟩ := hi t
  funext j
  show V m c main_v16 (((cfg0.win 8).blk t).view.emb j) = _
  refine congrArg _ ?_
  funext a; apply Fin.ext
  match a with
  | ⟨0, _⟩ => show win0_8.index t (0 : Fin 2) * 256 + 1 * (j 0).val = (j 0).val; omega
  | ⟨1, _⟩ => show win0_8.index t (1 : Fin 2) * 256 + 1 * (j 1).val = (j 1).val; omega

/-- Operand 9's block is its array. -/
theorem iblk9_eq (c : Dev nD) (t : Fin cfg0.N) : iblk m c 9 t = V m c main_v17 := by
  have hi : ∀ t : Fin cfg0.N, win0_9.index t (0 : Fin 2) = 0 ∧ win0_9.index t (1 : Fin 2) = 0 :=
    (by decide +kernel : ∀ t : Fin grid0.N, win0_9.index t (0 : Fin 2) = 0 ∧ win0_9.index t (1 : Fin 2) = 0)
  obtain ⟨e0, e1⟩ := hi t
  funext j
  show V m c main_v17 (((cfg0.win 9).blk t).view.emb j) = _
  refine congrArg _ ?_
  funext a; apply Fin.ext
  match a with
  | ⟨0, _⟩ => show win0_9.index t (0 : Fin 2) * 256 + 1 * (j 0).val = (j 0).val; omega
  | ⟨1, _⟩ => show win0_9.index t (1 : Fin 2) * 256 + 1 * (j 1).val = (j 1).val; omega

/-- Operand 10's block is its array. -/
theorem iblk10_eq (c : Dev nD) (t : Fin cfg0.N) : iblk m c 10 t = V m c main_v11 := by
  have hi : ∀ t : Fin cfg0.N, win0_10.index t (0 : Fin 2) = 0 ∧ win0_10.index t (1 : Fin 2) = 0 :=
    (by decide +kernel : ∀ t : Fin grid0.N, win0_10.index t (0 : Fin 2) = 0 ∧ win0_10.index t (1 : Fin 2) = 0)
  obtain ⟨e0, e1⟩ := hi t
  funext j
  show V m c main_v11 (((cfg0.win 10).blk t).view.emb j) = _
  refine congrArg _ ?_
  funext a; apply Fin.ext
  match a with
  | ⟨0, _⟩ => show win0_10.index t (0 : Fin 2) * 256 + 1 * (j 0).val = (j 0).val; omega
  | ⟨1, _⟩ => show win0_10.index t (1 : Fin 2) * 256 + 1 * (j 1).val = (j 1).val; omega

/-- Operand 11's block is its array. -/
theorem iblk11_eq (c : Dev nD) (t : Fin cfg0.N) : iblk m c 11 t = V m c main_v7 := by
  have hi : ∀ t : Fin cfg0.N, win0_11.index t (0 : Fin 2) = 0 ∧ win0_11.index t (1 : Fin 2) = 0 :=
    (by decide +kernel : ∀ t : Fin grid0.N, win0_11.index t (0 : Fin 2) = 0 ∧ win0_11.index t (1 : Fin 2) = 0)
  obtain ⟨e0, e1⟩ := hi t
  funext j
  show V m c main_v7 (((cfg0.win 11).blk t).view.emb j) = _
  refine congrArg _ ?_
  funext a; apply Fin.ext
  match a with
  | ⟨0, _⟩ => show win0_11.index t (0 : Fin 2) * 1 + 1 * (j 0).val = (j 0).val; omega
  | ⟨1, _⟩ => show win0_11.index t (1 : Fin 2) * 256 + 1 * (j 1).val = (j 1).val; omega

/-- Operand 12's block is its array. -/
theorem iblk12_eq (c : Dev nD) (t : Fin cfg0.N) : iblk m c 12 t = V m c main_v25 := by
  have hi : ∀ t : Fin cfg0.N, win0_12.index t (0 : Fin 2) = 0 ∧ win0_12.index t (1 : Fin 2) = 0 :=
    (by decide +kernel : ∀ t : Fin grid0.N, win0_12.index t (0 : Fin 2) = 0 ∧ win0_12.index t (1 : Fin 2) = 0)
  obtain ⟨e0, e1⟩ := hi t
  funext j
  show V m c main_v25 (((cfg0.win 12).blk t).view.emb j) = _
  refine congrArg _ ?_
  funext a; apply Fin.ext
  match a with
  | ⟨0, _⟩ => show win0_12.index t (0 : Fin 2) * 1 + 1 * (j 0).val = (j 0).val; omega
  | ⟨1, _⟩ => show win0_12.index t (1 : Fin 2) * 256 + 1 * (j 1).val = (j 1).val; omega

/-- Operand 13's block is its array. -/
theorem iblk13_eq (c : Dev nD) (t : Fin cfg0.N) : iblk m c 13 t = V m c main_v13 := by
  have hi : ∀ t : Fin cfg0.N, win0_13.index t (0 : Fin 2) = 0 ∧ win0_13.index t (1 : Fin 2) = 0 :=
    (by decide +kernel : ∀ t : Fin grid0.N, win0_13.index t (0 : Fin 2) = 0 ∧ win0_13.index t (1 : Fin 2) = 0)
  obtain ⟨e0, e1⟩ := hi t
  funext j
  show V m c main_v13 (((cfg0.win 13).blk t).view.emb j) = _
  refine congrArg _ ?_
  funext a; apply Fin.ext
  match a with
  | ⟨0, _⟩ => show win0_13.index t (0 : Fin 2) * 1 + 1 * (j 0).val = (j 0).val; omega
  | ⟨1, _⟩ => show win0_13.index t (1 : Fin 2) * 256 + 1 * (j 1).val = (j 1).val; omega

/-- Operand 14's block is its array. -/
theorem iblk14_eq (c : Dev nD) (t : Fin cfg0.N) : iblk m c 14 t = V m c main_v26 := by
  have hi : ∀ t : Fin cfg0.N, win0_14.index t (0 : Fin 2) = 0 ∧ win0_14.index t (1 : Fin 2) = 0 :=
    (by decide +kernel : ∀ t : Fin grid0.N, win0_14.index t (0 : Fin 2) = 0 ∧ win0_14.index t (1 : Fin 2) = 0)
  obtain ⟨e0, e1⟩ := hi t
  funext j
  show V m c main_v26 (((cfg0.win 14).blk t).view.emb j) = _
  refine congrArg _ ?_
  funext a; apply Fin.ext
  match a with
  | ⟨0, _⟩ => show win0_14.index t (0 : Fin 2) * 1 + 1 * (j 0).val = (j 0).val; omega
  | ⟨1, _⟩ => show win0_14.index t (1 : Fin 2) * 256 + 1 * (j 1).val = (j 1).val; omega

/-- Operand 15's block is its array. -/
theorem iblk15_eq (c : Dev nD) (t : Fin cfg0.N) : iblk m c 15 t = V m c main_v28 := by
  have hi : ∀ t : Fin cfg0.N, win0_15.index t (0 : Fin 2) = 0 ∧ win0_15.index t (1 : Fin 2) = 0 :=
    (by decide +kernel : ∀ t : Fin grid0.N, win0_15.index t (0 : Fin 2) = 0 ∧ win0_15.index t (1 : Fin 2) = 0)
  obtain ⟨e0, e1⟩ := hi t
  funext j
  show V m c main_v28 (((cfg0.win 15).blk t).view.emb j) = _
  refine congrArg _ ?_
  funext a; apply Fin.ext
  match a with
  | ⟨0, _⟩ => show win0_15.index t (0 : Fin 2) * 128 + 1 * (j 0).val = (j 0).val; omega
  | ⟨1, _⟩ => show win0_15.index t (1 : Fin 2) * 128 + 1 * (j 1).val = (j 1).val; omega

/-- Operand 16's block is its array. -/
theorem iblk16_eq (c : Dev nD) (t : Fin cfg0.N) : iblk m c 16 t = V m c main_v29 := by
  have hi : ∀ t : Fin cfg0.N, win0_16.index t (0 : Fin 2) = 0 ∧ win0_16.index t (1 : Fin 2) = 0 :=
    (by decide +kernel : ∀ t : Fin grid0.N, win0_16.index t (0 : Fin 2) = 0 ∧ win0_16.index t (1 : Fin 2) = 0)
  obtain ⟨e0, e1⟩ := hi t
  funext j
  show V m c main_v29 (((cfg0.win 16).blk t).view.emb j) = _
  refine congrArg _ ?_
  funext a; apply Fin.ext
  match a with
  | ⟨0, _⟩ => show win0_16.index t (0 : Fin 2) * 128 + 1 * (j 0).val = (j 0).val; omega
  | ⟨1, _⟩ => show win0_16.index t (1 : Fin 2) * 128 + 1 * (j 1).val = (j 1).val; omega

/-- Operand 17's block is its array. -/
theorem iblk17_eq (c : Dev nD) (t : Fin cfg0.N) : iblk m c 17 t = V m c main_v30 := by
  have hi : ∀ t : Fin cfg0.N, win0_17.index t (0 : Fin 2) = 0 ∧ win0_17.index t (1 : Fin 2) = 0 :=
    (by decide +kernel : ∀ t : Fin grid0.N, win0_17.index t (0 : Fin 2) = 0 ∧ win0_17.index t (1 : Fin 2) = 0)
  obtain ⟨e0, e1⟩ := hi t
  funext j
  show V m c main_v30 (((cfg0.win 17).blk t).view.emb j) = _
  refine congrArg _ ?_
  funext a; apply Fin.ext
  match a with
  | ⟨0, _⟩ => show win0_17.index t (0 : Fin 2) * 1 + 1 * (j 0).val = (j 0).val; omega
  | ⟨1, _⟩ => show win0_17.index t (1 : Fin 2) * 128 + 1 * (j 1).val = (j 1).val; omega

/-! ## The arrays -/

/-- The arguments, all but the last bias, hold the numbers `A` on device `c`. -/
abbrev AreAt (A : Args) (c : Dev nD) : Prop :=
  A.Are (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

variable {m} {A : Args} {c : Dev nD} (hA : AreAt m A c)
include hA

/-- The data's array is the data with its channels last. -/
theorem V0_at (b : Fin 4) (n : Fin 10000) (k : Fin 128) :
    V m c main_v1 (ix3 b n k) = ((A.nums b).x n k : EReal) := by
  simp only [V, V0, hostOps0, List.flatten_cons, List.flatten_nil, List.append_nil]
  after_results
  pointwise []
  exact hA.h0 b k n

/-- Operand 1's array at an index. -/
theorem V1_at (b : Fin 4) (k : Fin 128) : V m c main_v18 (ix2 0 k) = ((A.nums b).gd k : EReal) := by
  simp only [V, V0, hostOps0, List.flatten_cons, List.flatten_nil, List.append_nil]
  after_results
  pointwise []
  exact hA.h1 k

/-- Operand 2's array at an index. -/
theorem V2_at (b : Fin 4) (k : Fin 128) : V m c main_v19 (ix2 0 k) = ((A.nums b).bd k : EReal) := by
  simp only [V, V0, hostOps0, List.flatten_cons, List.flatten_nil, List.append_nil]
  after_results
  pointwise []
  exact hA.h2 k

/-- Operand 3's array at an index. -/
theorem V3_at (b : Fin 4) (k : Fin 128) : V m c main_v20 (ix2 0 k) = ((A.nums b).gu k : EReal) := by
  simp only [V, V0, hostOps0, List.flatten_cons, List.flatten_nil, List.append_nil]
  after_results
  pointwise []
  exact hA.h5 k

/-- Operand 4's array at an index. -/
theorem V4_at (b : Fin 4) (k : Fin 128) : V m c main_v21 (ix2 0 k) = ((A.nums b).bu k : EReal) := by
  simp only [V, V0, hostOps0, List.flatten_cons, List.flatten_nil, List.append_nil]
  after_results
  pointwise []
  exact hA.h6 k

/-- Operand 5's array at an index. -/
theorem V5_at (b : Fin 4) (i : Fin 128) (k : Fin 256) : V m c main_v22 (ix2 i k) = ((A.nums b).wd i k : EReal) := by
  simp only [V, V0, hostOps0, List.flatten_cons, List.flatten_nil, List.append_nil]
  after_results
  pointwise []
  exact hA.h3 k i

/-- Operand 6's array at an index. -/
theorem V6_at (b : Fin 4) (i : Fin 128) (k : Fin 256) : V m c main_v23 (ix2 i k) = ((A.nums b).wu i k : EReal) := by
  simp only [V, V0, hostOps0, List.flatten_cons, List.flatten_nil, List.append_nil]
  after_results
  pointwise []
  exact hA.h7 k i

/-- Operand 7's array at an index. -/
theorem V7_at (b : Fin 4) (k : Fin 256) : V m c main_v24 (ix2 0 k) = ((A.nums b).bias k : EReal) := by
  simp only [V, V0, hostOps0, List.flatten_cons, List.flatten_nil, List.append_nil]
  after_results
  pointwise []
  exact hA.h8 k

/-- Operand 8's array at an index. -/
theorem V8_at (b : Fin 4) (i k : Fin 256) : V m c main_v16 (ix2 i k) = ((A.nums b).m1 i k : EReal) := by
  simp only [V, V0, hostOps0, List.flatten_cons, List.flatten_nil, List.append_nil]
  after_results
  pointwise []
  exact (congrArg₂ (· + ·) ((congrArg₂ (· * ·) (hA.h9 k (i.castAdd 256)) (hA.h11 k)).trans (EReal.coe_mul _ _).symm) ((congrArg₂ (· * ·) (hA.h9 k (i.natAdd 256)) (hA.h11 k)).trans (EReal.coe_mul _ _).symm)).trans (EReal.coe_add _ _).symm

/-- Operand 9's array at an index. -/
theorem V9_at (b : Fin 4) (i k : Fin 256) : V m c main_v17 (ix2 i k) = ((A.nums b).a2 i k : EReal) := by
  simp only [V, V0, hostOps0, List.flatten_cons, List.flatten_nil, List.append_nil]
  after_results
  pointwise []
  exact (congrArg₂ (· * ·) (hA.h9 k (i.natAdd 256)) (hA.h11 k)).trans (EReal.coe_mul _ _).symm

/-- Operand 10's array at an index. -/
theorem V10_at (b : Fin 4) (i k : Fin 256) : V m c main_v11 (ix2 i k) = ((A.nums b).w2 i k : EReal) := by
  simp only [V, V0, hostOps0, List.flatten_cons, List.flatten_nil, List.append_nil]
  after_results
  pointwise []
  exact (congrArg₂ (· * ·) (hA.h13 k i) (hA.h15 k)).trans (EReal.coe_mul _ _).symm

/-- Operand 11's array at an index. -/
theorem V11_at (b : Fin 4) (k : Fin 256) : V m c main_v7 (ix2 0 k) = ((A.nums b).b1 k : EReal) := by
  simp only [V, V0, hostOps0, List.flatten_cons, List.flatten_nil, List.append_nil]
  after_results
  pointwise []
  exact (congrArg₂ (· * ·) (hA.h10 k) (hA.h11 k)).trans (EReal.coe_mul _ _).symm

/-- Operand 12's array at an index. -/
theorem V12_at (b : Fin 4) (k : Fin 256) : V m c main_v25 (ix2 0 k) = ((A.nums b).e1 k : EReal) := by
  simp only [V, V0, hostOps0, List.flatten_cons, List.flatten_nil, List.append_nil]
  after_results
  pointwise []
  exact hA.h12 k

/-- Operand 13's array at an index. -/
theorem V13_at (b : Fin 4) (k : Fin 256) : V m c main_v13 (ix2 0 k) = ((A.nums b).b2 k : EReal) := by
  simp only [V, V0, hostOps0, List.flatten_cons, List.flatten_nil, List.append_nil]
  after_results
  pointwise []
  exact (congrArg₂ (· * ·) (hA.h14 k) (hA.h15 k)).trans (EReal.coe_mul _ _).symm

/-- Operand 14's array at an index. -/
theorem V14_at (b : Fin 4) (k : Fin 256) : V m c main_v26 (ix2 0 k) = ((A.nums b).e2 k : EReal) := by
  simp only [V, V0, hostOps0, List.flatten_cons, List.flatten_nil, List.append_nil]
  after_results
  pointwise []
  exact hA.h16 k

/-- Operand 15's array at an index. -/
theorem V15_at (b : Fin 4) (i o : Fin 128) : V m c main_v28 (ix2 i o) = ((A.nums b).v1 i o : EReal) := by
  simp only [V, V0, hostOps0, List.flatten_cons, List.flatten_nil, List.append_nil]
  after_results
  pointwise []
  exact hA.h17 o (i.castAdd 128)

/-- Operand 16's array at an index. -/
theorem V16_at (b : Fin 4) (o a : Fin 128) : V m c main_v29 (ix2 o a) = ((A.nums b).v2 o a : EReal) := by
  simp only [V, V0, hostOps0, List.flatten_cons, List.flatten_nil, List.append_nil]
  after_results
  pointwise []
  exact hA.h17 o (a.natAdd 128)

omit hA in
/-- The last operand's array is the last bias. -/
theorem V17_at (k : Fin 128) : V m c main_v30 (ix2 0 k) = m ((c : Thread nD τ).loc main_arg18) (ix1 k) := by
  simp only [V, V0, hostOps0, List.flatten_cons, List.flatten_nil, List.append_nil]
  after_results
  pointwise []

/-! ## What the windows hold -/

end Cert.Proof

end
-- ==== Proof.KRun.lean ====
/- The kernel's run: its result array is the reference's formula of the arguments. -/
module

public import proofs.«01_k».proof.Proof.KRead

@[expose] public section

noncomputable section

namespace Cert.Proof

open Idealize.ShloMosaic Cert.KernelIdeal Cert.KernelIdeal.Gen Idealize.ShloMosaic.TcCoe Idealize.SL.Sem

variable (m : (ℓ : Loc nD τ sig) → Buf (Elt Ideal) ℓ)

/-! ## The windows' blocks are the operands -/

/-- Operand 1 as the point reads it. -/
theorem win1_eq (c : Dev nD) (t : Fin cfg0.N) : (winAt m c t).x1 = V m c main_v18 := by
  unfold winAt
  dsimp only
  rw [View.readAt_eq_ld, (hs0_1 t).read_unread, View.ld_unit_zero (S := S1x128) off2, iblk1_eq]

/-- Operand 2 as the point reads it. -/
theorem win2_eq (c : Dev nD) (t : Fin cfg0.N) : (winAt m c t).x2 = V m c main_v19 := by
  unfold winAt
  dsimp only
  rw [View.readAt_eq_ld, (hs0_2 t).read_unread, View.ld_unit_zero (S := S1x128) off2, iblk2_eq]

/-- Operand 3 as the point reads it. -/
theorem win3_eq (c : Dev nD) (t : Fin cfg0.N) : (winAt m c t).x3 = V m c main_v20 := by
  unfold winAt
  dsimp only
  rw [View.readAt_eq_ld, (hs0_3 t).read_unread, View.ld_unit_zero (S := S1x128) off2, iblk3_eq]

/-- Operand 4 as the point reads it. -/
theorem win4_eq (c : Dev nD) (t : Fin cfg0.N) : (winAt m c t).x4 = V m c main_v21 := by
  unfold winAt
  dsimp only
  rw [View.readAt_eq_ld, (hs0_4 t).read_unread, View.ld_unit_zero (S := S1x128) off2, iblk4_eq]

/-- Operand 5 as the point reads it. -/
theorem win5_eq (c : Dev nD) (t : Fin cfg0.N) : (winAt m c t).x5 = V m c main_v22 := by
  unfold winAt
  dsimp only
  rw [View.readAt_eq_ld, (hs0_5 t).read_unread, View.ld_unit_zero (S := S128x256) off2, iblk5_eq]

/-- Operand 6 as the point reads it. -/
theorem win6_eq (c : Dev nD) (t : Fin cfg0.N) : (winAt m c t).x6 = V m c main_v23 := by
  unfold winAt
  dsimp only
  rw [View.readAt_eq_ld, (hs0_6 t).read_unread, View.ld_unit_zero (S := S128x256) off2, iblk6_eq]

/-- Operand 7 as the point reads it. -/
theorem win7_eq (c : Dev nD) (t : Fin cfg0.N) : (winAt m c t).x7 = V m c main_v24 := by
  unfold winAt
  dsimp only
  rw [View.readAt_eq_ld, (hs0_7 t).read_unread, View.ld_unit_zero (S := S1x256) off2, iblk7_eq]

/-- Operand 8 as the point reads it. -/
theorem win8_eq (c : Dev nD) (t : Fin cfg0.N) : (winAt m c t).x8 = V m c main_v16 := by
  unfold winAt
  dsimp only
  rw [View.readAt_eq_ld, (hs0_8 t).read_unread, View.ld_unit_zero (S := S256x256) off2, iblk8_eq]

/-- Operand 9 as the point reads it. -/
theorem win9_eq (c : Dev nD) (t : Fin cfg0.N) : (winAt m c t).x9 = V m c main_v17 := by
  unfold winAt
  dsimp only
  rw [View.readAt_eq_ld, (hs0_9 t).read_unread, View.ld_unit_zero (S := S256x256) off2, iblk9_eq]

/-- Operand 10 as the point reads it. -/
theorem win10_eq (c : Dev nD) (t : Fin cfg0.N) : (winAt m c t).x10 = V m c main_v11 := by
  unfold winAt
  dsimp only
  rw [View.readAt_eq_ld, (hs0_10 t).read_unread, View.ld_unit_zero (S := S256x256) off2, iblk10_eq]

/-- Operand 11 as the point reads it. -/
theorem win11_eq (c : Dev nD) (t : Fin cfg0.N) : (winAt m c t).x11 = V m c main_v7 := by
  unfold winAt
  dsimp only
  rw [View.readAt_eq_ld, (hs0_11 t).read_unread, View.ld_unit_zero (S := S1x256) off2, iblk11_eq]

/-- Operand 12 as the point reads it. -/
theorem win12_eq (c : Dev nD) (t : Fin cfg0.N) : (winAt m c t).x12 = V m c main_v25 := by
  unfold winAt
  dsimp only
  rw [View.readAt_eq_ld, (hs0_12 t).read_unread, View.ld_unit_zero (S := S1x256) off2, iblk12_eq]

/-- Operand 13 as the point reads it. -/
theorem win13_eq (c : Dev nD) (t : Fin cfg0.N) : (winAt m c t).x13 = V m c main_v13 := by
  unfold winAt
  dsimp only
  rw [View.readAt_eq_ld, (hs0_13 t).read_unread, View.ld_unit_zero (S := S1x256) off2, iblk13_eq]

/-- Operand 14 as the point reads it. -/
theorem win14_eq (c : Dev nD) (t : Fin cfg0.N) : (winAt m c t).x14 = V m c main_v26 := by
  unfold winAt
  dsimp only
  rw [View.readAt_eq_ld, (hs0_14 t).read_unread, View.ld_unit_zero (S := S1x256) off2, iblk14_eq]

/-- Operand 15 as the point reads it. -/
theorem win15_eq (c : Dev nD) (t : Fin cfg0.N) : (winAt m c t).x15 = V m c main_v28 := by
  unfold winAt
  dsimp only
  rw [View.readAt_eq_ld, (hs0_15 t).read_unread, View.ld_unit_zero (S := S128x128) off2, iblk15_eq]

/-- Operand 16 as the point reads it. -/
theorem win16_eq (c : Dev nD) (t : Fin cfg0.N) : (winAt m c t).x16 = V m c main_v29 := by
  unfold winAt
  dsimp only
  rw [View.readAt_eq_ld, (hs0_16 t).read_unread, View.ld_unit_zero (S := S128x128) off2, iblk16_eq]

/-- Operand 17 as the point reads it. -/
theorem win17_eq (c : Dev nD) (t : Fin cfg0.N) : (winAt m c t).x17 = V m c main_v30 := by
  unfold winAt
  dsimp only
  rw [View.readAt_eq_ld, (hs0_17 t).read_unread, View.ld_unit_zero (S := S1x128) off2, iblk17_eq]

/-- The data's rows as the point reads them: chunk `xa`. -/
theorem win_xa (c : Dev nD) (t : Fin cfg0.N) (i : Fin 4096) (k : Fin 128) :
    (winAt m c t).xa (ix3 0 i k) = V m c main_v1 (ix3 ⟨t.val, point_lt t⟩ (lo i) k) := by
  unfold winAt
  dsimp only
  rw [View.readAt_eq_ld, (hs0_0 t).read_unread]
  refine (congrArg (iblk m c 0 t) (?_ : _ = (ix3 (0 : Fin 1) (lo i) k : S1x10000x128.Idx))).trans (iblk0_at m c t (lo i) k)
  funext a; apply Fin.ext
  match a with
  | ⟨0, _⟩ => rfl
  | ⟨1, _⟩ => show 0 + 1 * i.val = (lo i).val; unfold lo; dsimp only; omega
  | ⟨2, _⟩ => show 0 + 1 * k.val = k.val; omega

/-- The data's rows as the point reads them: chunk `xb`. -/
theorem win_xb (c : Dev nD) (t : Fin cfg0.N) (i : Fin 4096) (k : Fin 128) :
    (winAt m c t).xb (ix3 0 i k) = V m c main_v1 (ix3 ⟨t.val, point_lt t⟩ (mid i) k) := by
  unfold winAt
  dsimp only
  rw [View.readAt_eq_ld, (hs0_0 t).read_unread]
  refine (congrArg (iblk m c 0 t) (?_ : _ = (ix3 (0 : Fin 1) (mid i) k : S1x10000x128.Idx))).trans (iblk0_at m c t (mid i) k)
  funext a; apply Fin.ext
  match a with
  | ⟨0, _⟩ => rfl
  | ⟨1, _⟩ => show 4096 + 1 * i.val = (mid i).val; unfold mid; dsimp only; omega
  | ⟨2, _⟩ => show 0 + 1 * k.val = k.val; omega

/-- The data's rows as the point reads them: chunk `xc`. -/
theorem win_xc (c : Dev nD) (t : Fin cfg0.N) (i : Fin 1808) (k : Fin 128) :
    (winAt m c t).xc (ix3 0 i k) = V m c main_v1 (ix3 ⟨t.val, point_lt t⟩ (hi i) k) := by
  unfold winAt
  dsimp only
  rw [View.readAt_eq_ld, (hs0_0 t).read_unread]
  refine (congrArg (iblk m c 0 t) (?_ : _ = (ix3 (0 : Fin 1) (hi i) k : S1x10000x128.Idx))).trans (iblk0_at m c t (hi i) k)
  funext a; apply Fin.ext
  match a with
  | ⟨0, _⟩ => rfl
  | ⟨1, _⟩ => show 8192 + 1 * i.val = (hi i).val; unfold hi; dsimp only; omega
  | ⟨2, _⟩ => show 0 + 1 * k.val = k.val; omega

variable {m} {A : Args} {c : Dev nD} (hA : AreAt m A c)

include hA in
/-- The blocks that point `t` reads hold batch `t`'s numbers. -/
theorem holds (t : Fin cfg0.N) : (winAt m c t).Holds (A.nums ⟨t.val, point_lt t⟩) where
  xa i k := (win_xa m c t i k).trans (V0_at hA _ _ k)
  xb i k := (win_xb m c t i k).trans (V0_at hA _ _ k)
  xc i k := (win_xc m c t i k).trans (V0_at hA _ _ k)
  x1 k := by rw [win1_eq]; exact V1_at hA _ k
  x2 k := by rw [win2_eq]; exact V2_at hA _ k
  x3 k := by rw [win3_eq]; exact V3_at hA _ k
  x4 k := by rw [win4_eq]; exact V4_at hA _ k
  x5 i k := by rw [win5_eq]; exact V5_at hA _ i k
  x6 i k := by rw [win6_eq]; exact V6_at hA _ i k
  x7 k := by rw [win7_eq]; exact V7_at hA _ k
  x8 i k := by rw [win8_eq]; exact V8_at hA _ i k
  x9 i k := by rw [win9_eq]; exact V9_at hA _ i k
  x10 i k := by rw [win10_eq]; exact V10_at hA _ i k
  x11 k := by rw [win11_eq]; exact V11_at hA _ k
  x12 k := by rw [win12_eq]; exact V12_at hA _ k
  x13 k := by rw [win13_eq]; exact V13_at hA _ k
  x14 k := by rw [win14_eq]; exact V14_at hA _ k
  x15 i k := by rw [win15_eq]; exact V15_at hA _ i k
  x16 i k := by rw [win16_eq]; exact V16_at hA _ i k

/-! ## The result array -/

variable (m A c) in
/-- The array of the results, channels last. -/
def arrG (y : S4x10000x128.Idx) : Ideal .f32 :=
  (A.out (y 0) (y 2) (y 1) : EReal) + (m ((c : Thread nD τ).loc main_arg18) : Vec Ideal S128 .f32) (ix1 (y 2))

variable (c A) in
/-- What point `t` leaves at an index of its block. -/
def ptG (m : (ℓ : Loc nD τ sig) → Buf (Elt Ideal) ℓ) (t : Fin cfg0.N) (y : S1x10000x128.Idx) : Ideal .f32 :=
  (A.out ⟨t.val, point_lt t⟩ (y 2) (y 1) : EReal) + (m ((c : Thread nD τ).loc main_arg18) : Vec Ideal S128 .f32) (ix1 (y 2))

include hA in
/-- Chunk 0 of what a point leaves. -/
theorem chunk0 (t : Fin cfg0.N) (x : S1x4096x128.Idx) :
    kOut0 (winAt m c t) x = ptG A c m t ((Rect.unit (s := S1x10000x128) ![0, 0, 0] S1x4096x128.size inb_S1x10000x128_S1x4096x128_0_0_0).emb x) := by
  have e1 : ((Rect.unit (s := S1x10000x128) ![0, 0, 0] S1x4096x128.size inb_S1x10000x128_S1x4096x128_0_0_0).emb x) 1 = lo (x 1) := by
    apply Fin.ext; show 0 + 1 * (x 1).val = _; unfold lo; dsimp only; omega
  have e2 : ((Rect.unit (s := S1x10000x128) ![0, 0, 0] S1x4096x128.size inb_S1x10000x128_S1x4096x128_0_0_0).emb x) 2 = x 2 := by
    apply Fin.ext; show 0 + 1 * (x 2).val = _; omega
  have e0 : x = (ix3 (0 : Fin 1) (x 1 : Fin 4096) (x 2 : Fin 128) : S1x4096x128.Idx) := by
    funext i
    match i with
    | ⟨0, _⟩ => exact Subsingleton.elim (α := Fin 1) _ _
    | ⟨1, _⟩ => rfl
    | ⟨2, _⟩ => rfl
  unfold ptG
  rw [e1, e2]
  refine (congrArg (kOut0 (winAt m c t)) e0).trans ((kOut0_at (holds hA t) (x 1) (x 2)).trans ?_)
  exact congrArg₂ (· + ·) (congrArg _ (Args.nums_out A _ _ _)) (by rw [win17_eq]; exact V17_at (x 2))

include hA in
/-- Chunk 1 of what a point leaves. -/
theorem chunk1 (t : Fin cfg0.N) (x : S1x4096x128.Idx) :
    kOut1 (winAt m c t) x = ptG A c m t ((Rect.unit (s := S1x10000x128) ![0, 4096, 0] S1x4096x128.size inb_S1x10000x128_S1x4096x128_0_4096_0).emb x) := by
  have e1 : ((Rect.unit (s := S1x10000x128) ![0, 4096, 0] S1x4096x128.size inb_S1x10000x128_S1x4096x128_0_4096_0).emb x) 1 = mid (x 1) := by
    apply Fin.ext; show 4096 + 1 * (x 1).val = _; unfold mid; dsimp only; omega
  have e2 : ((Rect.unit (s := S1x10000x128) ![0, 4096, 0] S1x4096x128.size inb_S1x10000x128_S1x4096x128_0_4096_0).emb x) 2 = x 2 := by
    apply Fin.ext; show 0 + 1 * (x 2).val = _; omega
  have e0 : x = (ix3 (0 : Fin 1) (x 1 : Fin 4096) (x 2 : Fin 128) : S1x4096x128.Idx) := by
    funext i
    match i with
    | ⟨0, _⟩ => exact Subsingleton.elim (α := Fin 1) _ _
    | ⟨1, _⟩ => rfl
    | ⟨2, _⟩ => rfl
  unfold ptG
  rw [e1, e2]
  refine (congrArg (kOut1 (winAt m c t)) e0).trans ((kOut1_at (holds hA t) (x 1) (x 2)).trans ?_)
  exact congrArg₂ (· + ·) (congrArg _ (Args.nums_out A _ _ _)) (by rw [win17_eq]; exact V17_at (x 2))

include hA in
/-- Chunk 2 of what a point leaves. -/
theorem chunk2 (t : Fin cfg0.N) (x : S1x1808x128.Idx) :
    kOut2 (winAt m c t) x = ptG A c m t ((Rect.unit (s := S1x10000x128) ![0, 8192, 0] S1x1808x128.size inb_S1x10000x128_S1x1808x128_0_8192_0).emb x) := by
  have e1 : ((Rect.unit (s := S1x10000x128) ![0, 8192, 0] S1x1808x128.size inb_S1x10000x128_S1x1808x128_0_8192_0).emb x) 1 = hi (x 1) := by
    apply Fin.ext; show 8192 + 1 * (x 1).val = _; unfold hi; dsimp only; omega
  have e2 : ((Rect.unit (s := S1x10000x128) ![0, 8192, 0] S1x1808x128.size inb_S1x10000x128_S1x1808x128_0_8192_0).emb x) 2 = x 2 := by
    apply Fin.ext; show 0 + 1 * (x 2).val = _; omega
  have e0 : x = (ix3 (0 : Fin 1) (x 1 : Fin 1808) (x 2 : Fin 128) : S1x1808x128.Idx) := by
    funext i
    match i with
    | ⟨0, _⟩ => exact Subsingleton.elim (α := Fin 1) _ _
    | ⟨1, _⟩ => rfl
    | ⟨2, _⟩ => rfl
  unfold ptG
  rw [e1, e2]
  refine (congrArg (kOut2 (winAt m c t)) e0).trans ((kOut2_at (holds hA t) (x 1) (x 2)).trans ?_)
  exact congrArg₂ (· + ·) (congrArg _ (Args.nums_out A _ _ _)) (by rw [win17_eq]; exact V17_at (x 2))

include hA in
/-- What point `t` writes back is block `t` of the result array. -/
theorem flushed18_eq (t : Fin cfg0.N) :
    (dats m 0 c).flushed 18 t = ((cfg0.win 18).blk t).view.read (Elt Ideal) (arrG m A c) := by
  show (cfg0.win 18).cut (grid0.coords t) ((dats m 0 c).after 18 t) = _
  rw [after0_18]
  obtain ⟨i0, i1, i2⟩ := idx18 t
  funext j
  show outsAt0 m c t j = arrG m A c (((cfg0.win 18).blk t).view.emb j)
  rw [point_eq m c t (ptG A c m t) (chunk0 hA t) (chunk1 hA t) (chunk2 hA t)]
  have h0 : (((cfg0.win 18).blk t).view.emb j) 0 = ⟨t.val, point_lt t⟩ := by
    apply Fin.ext; show win0_18.index t (0 : Fin 3) * 1 + 1 * (j 0).val = t.val; have : (j 0).val < 1 := (j 0).isLt; omega
  have h1 : (((cfg0.win 18).blk t).view.emb j) 1 = j 1 := by
    apply Fin.ext; show win0_18.index t (1 : Fin 3) * 10000 + 1 * (j 1).val = (j 1).val; omega
  have h2 : (((cfg0.win 18).blk t).view.emb j) 2 = j 2 := by
    apply Fin.ext; show win0_18.index t (2 : Fin 3) * 128 + 1 * (j 2).val = (j 2).val; omega
  unfold ptG arrG
  rw [h0, h1, h2]
  rfl

/-- Every index of the result array is in a point's block. -/
theorem covered18 (i : S4x10000x128.Idx) :
    ∃ t : Fin cfg0.N, (cfg0.win 18).flush t = true ∧ i ∈ ((cfg0.win 18).blk t).view.set := by
  refine ⟨⟨(i 0).val, (i 0).isLt⟩, flush0_18 _, ?_⟩
  obtain ⟨i0, i1, i2⟩ := idx18 ⟨(i 0).val, (i 0).isLt⟩
  have i0' : win0_18.index ⟨(i 0).val, (i 0).isLt⟩ (0 : Fin 3) = (i 0).val := i0
  have e : ((cfg0.win 18).blk ⟨(i 0).val, (i 0).isLt⟩).view.emb (ix3 0 (i 1) (i 2) : S1x10000x128.Idx) = i := by
    funext a; apply Fin.ext
    match a with
    | ⟨0, _⟩ => show win0_18.index ⟨(i 0).val, _⟩ (0 : Fin 3) * 1 + 1 * 0 = (i 0).val; omega
    | ⟨1, _⟩ => show win0_18.index ⟨(i 0).val, _⟩ (1 : Fin 3) * 10000 + 1 * (i 1).val = (i 1).val; omega
    | ⟨2, _⟩ => show win0_18.index ⟨(i 0).val, _⟩ (2 : Fin 3) * 128 + 1 * (i 2).val = (i 2).val; omega
  have h := ((cfg0.win 18).blk ⟨(i 0).val, (i 0).isLt⟩).view.emb_mem_set (ix3 0 (i 1) (i 2) : S1x10000x128.Idx)
  rwa [e] at h

include hA in
/-- The result array after the grid. -/
theorem final18 : (dats m 0 c).arrAt 18 cfg0.N = arrG m A c :=
  (dats m 0 c).arrAt_eq_of_cover 18 (arrG m A c) (fun t _ => flushed18_eq hA t) covered18

variable (m A c) in
/-- The result: channels second, with a last axis of one. -/
def resG (y : S4x128x10000x1.Idx) : Ideal .f32 :=
  (A.out (y 0) (y 1) (y 2) : EReal) + (m ((c : Thread nD τ).loc main_arg18) : Vec Ideal S128 .f32) (ix1 (y 1))

/-- No two windows share an array. -/
theorem arr_injective : Function.Injective (Pipeline.arrRef spec0) := launch0.win.arr_inj

include hA in
/-- The result buffer after the host's last lines. -/
theorem tail_eq : Pipeline.afterTail₀ cfgs (dats m) 0 (V0 m) [hostOps1] c main_v33 = resG m A c := by
  have e : Pipeline.withArrays (cfgs 0).spec c (V0 m c) (fun w => (dats m 0 c).arrAt w (cfgs 0).N) (Proc.devRef .tc main_v31) = arrG m A c :=
    (Pipeline.withArrays_arr _ arr_injective c (V0 m c) (fun w => (dats m 0 c).arrAt w (cfgs 0).N) 18).trans (final18 hA)
  unfold Pipeline.afterTail₀
  simp only [hostOps1, List.flatten_cons, List.flatten_nil, List.append_nil]
  after_results
  rw [e]
  funext y
  have ey : y = ix4 (y 0) (y 1) (y 2) 0 := by
    funext i
    match i with
    | ⟨0, _⟩ => rfl
    | ⟨1, _⟩ => rfl
    | ⟨2, _⟩ => rfl
    | ⟨3, _⟩ => exact Subsingleton.elim (α := Fin 1) _ _
  rw [ey]
  pointwise []
  rfl

/-- The run: the result is the reference's formula of the arguments, and the arguments end unchanged. -/
theorem kernel_run (m : (ℓ : Loc nD τ sig) → Buf (Elt Ideal) ℓ) (g : Dev nD → PrngReg) (A : Dev nD → Args) (hA : ∀ c, AreAt m (A c) c) :
    θ_run (defs (F := Ideal)) (onTc (τ := τ) (main (F := Ideal))) ⟨m, fun _ => 0, g⟩ (fun r => ∀ c : Dev nD,
      r.2.mem ((c.tc : Thread nD τ).loc main_v33) = resG m (A c) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_v33 (Pipeline.mem_restRefs_of main_v33 (by decide) (by decide))).trans (tail_eq (hA c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c)⟩) (run_main m g)

end Cert.Proof

end
-- ==== Proof.Finite.lean ====
/- The precondition: where every argument array but the last bias is finite, the arrays hold real numbers. -/
module

public import proofs.«01_k».proof.Defs
public import proofs.«01_k».proof.Proof.KRun
public import proofs.«01_k».proof.Proof.Gen.Pre_finite_args

@[expose] public section

noncomputable section

namespace Cert.Proof

open Idealize.ShloMosaic Cert.KernelIdeal

/-- An extended real whose absolute value is below plus infinity is a real number. -/
theorem coe_of_abs_lt {x : EReal} (h : max x (-x) < ⊤) : x = (x.toReal : EReal) := by
  refine (EReal.coe_toReal (fun hx => ?_) fun hx => ?_).symm
  · subst hx; exact absurd h (by simp)
  · subst hx; exact absurd h (by simp)

/-- An array whose absolute values all compare below plus infinity holds real numbers. -/
theorem coe_of_finite {s : Shape} (x : FVec Ideal s .f32) (hb : Cert.Pre_finite_args.S_.BroadcastsInDim s (![] : Fin 0 → Fin s.rank))
    (w : BitVec 32) (hw : Ideal.ofBits .f32 w = (⊤ : EReal))
    (h : cmpf .olt (Host.absf x) (broadcastInDim s ![] hb (constant (F := Ideal) Cert.Pre_finite_args.S_ .f32 w)) = fun _ => 1#1) (i : s.Idx) :
    x i = ((x i : EReal).toReal : EReal) := by
  have e : BitVec.ofBool (decide (max (x i : EReal) (-(x i : EReal)) < Ideal.ofBits .f32 w)) = 1#1 := congrFun h i
  rw [hw] at e
  refine coe_of_abs_lt ?_
  by_contra hn
  rw [decide_eq_false hn] at e
  exact absurd e (by decide)

/-- The real numbers in the arrays. -/
def argsOf (a0 : Vec Ideal S4x128x10000x1 .f32) (a1 a2 : Vec Ideal S128 .f32) (a3 : Vec Ideal S256x128 .f32)
    (a4 : Vec Ideal S256 .f32) (a5 a6 : Vec Ideal S128 .f32) (a7 : Vec Ideal S256x128 .f32) (a8 : Vec Ideal S256 .f32)
    (a9 : Vec Ideal S256x512 .f32) (a10 a11 a12 : Vec Ideal S256 .f32) (a13 : Vec Ideal S256x256 .f32) (a14 a15 a16 : Vec Ideal S256 .f32)
    (a17 : Vec Ideal S128x256 .f32) : Args where
  data b k n := EReal.toReal (a0 (ix4 b k n 0))
  gd i := EReal.toReal (a1 (ix1 i))
  bd i := EReal.toReal (a2 (ix1 i))
  wd i j := EReal.toReal (a3 (ix2 i j))
  sd i := EReal.toReal (a4 (ix1 i))
  gu i := EReal.toReal (a5 (ix1 i))
  bu i := EReal.toReal (a6 (ix1 i))
  wu i j := EReal.toReal (a7 (ix2 i j))
  su i := EReal.toReal (a8 (ix1 i))
  w1 i j := EReal.toReal (a9 (ix2 i j))
  b1 i := EReal.toReal (a10 (ix1 i))
  g1 i := EReal.toReal (a11 (ix1 i))
  e1 i := EReal.toReal (a12 (ix1 i))
  w2 i j := EReal.toReal (a13 (ix2 i j))
  b2 i := EReal.toReal (a14 (ix1 i))
  g2 i := EReal.toReal (a15 (ix1 i))
  e2 i := EReal.toReal (a16 (ix1 i))
  ws i j := EReal.toReal (a17 (ix2 i j))

/-- Under the precondition the arrays hold real numbers. -/
theorem args_of_finite (m : (ℓ : Loc nD τ sig) → Buf (Elt Ideal) ℓ)
    (hm : Cert.Pre_KernelIdeal_finite_args (hPre_finite_args := Cert.Pre_finite_args.Gen.facts) m) (c : Dev nD) :
    ∃ A : Args, AreAt m A c := by
  have h := hm c
  exact ⟨argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)), {
    h0 b k n := coe_of_finite (s := S4x128x10000x1) _ _ _ word_top h.1 _
    h1 i := coe_of_finite (s := S128) _ _ _ word_top h.2.1 _
    h2 i := coe_of_finite (s := S128) _ _ _ word_top h.2.2.1 _
    h3 i j := coe_of_finite (s := S256x128) _ _ _ word_top h.2.2.2.1 _
    h4 i := coe_of_finite (s := S256) _ _ _ word_top h.2.2.2.2.1 _
    h5 i := coe_of_finite (s := S128) _ _ _ word_top h.2.2.2.2.2.1 _
    h6 i := coe_of_finite (s := S128) _ _ _ word_top h.2.2.2.2.2.2.1 _
    h7 i j := coe_of_finite (s := S256x128) _ _ _ word_top h.2.2.2.2.2.2.2.1 _
    h8 i := coe_of_finite (s := S256) _ _ _ word_top h.2.2.2.2.2.2.2.2.1 _
    h9 i j := coe_of_finite (s := S256x512) _ _ _ word_top h.2.2.2.2.2.2.2.2.2.1 _
    h10 i := coe_of_finite (s := S256) _ _ _ word_top h.2.2.2.2.2.2.2.2.2.2.1 _
    h11 i := coe_of_finite (s := S256) _ _ _ word_top h.2.2.2.2.2.2.2.2.2.2.2.1 _
    h12 i := coe_of_finite (s := S256) _ _ _ word_top h.2.2.2.2.2.2.2.2.2.2.2.2.1 _
    h13 i j := coe_of_finite (s := S256x256) _ _ _ word_top h.2.2.2.2.2.2.2.2.2.2.2.2.2.1 _
    h14 i := coe_of_finite (s := S256) _ _ _ word_top h.2.2.2.2.2.2.2.2.2.2.2.2.2.2.1 _
    h15 i := coe_of_finite (s := S256) _ _ _ word_top h.2.2.2.2.2.2.2.2.2.2.2.2.2.2.2.1 _
    h16 i := coe_of_finite (s := S256) _ _ _ word_top h.2.2.2.2.2.2.2.2.2.2.2.2.2.2.2.2.1 _
    h17 i j := coe_of_finite (s := S128x256) _ _ _ word_top h.2.2.2.2.2.2.2.2.2.2.2.2.2.2.2.2.2 _ }⟩

end Cert.Proof

end
-- ==== Proof.RNorm.lean ====
/- The reference's normalized, scaled, shifted and rectified inputs, read at an index. -/
module

public import proofs.«01_k».proof.Proof.Spec
public import proofs.«01_k».proof.Proof.Gen.ReferenceIdeal.Read

@[expose] public section

noncomputable section

namespace Cert.Proof

open Idealize.ShloMosaic Cert.ReferenceIdeal Cert.ReferenceIdeal.Gen Cert.ReferenceIdeal.Read

/-- The square root of a number that is not negative. -/
theorem sqrt_coe' {r : ℝ} (h : 0 ≤ r) : Ideal.sqrt (r : EReal) = ((Real.sqrt r : ℝ) : EReal) := by
  rw [Ideal.sqrt_coe, if_neg (not_lt.mpr h)]

/-- The integer zero as a float. -/
theorem sitofp_zero : FloatOps.sitofp (F := Ideal) .f32 (0#32) = ((0 : ℝ) : EReal) := by
  show (((0#32 : BitVec 32).toInt : ℝ) : EReal) = _
  simp

/-- The square root of `1 + ε`, the divisor of the batch normalizations. -/
theorem v13_at : val_main_v13 (F := Ideal) ix0 = ((Real.sqrt bnq : ℝ) : EReal) := by
  show Ideal.sqrt (Ideal.ofBits .f32 0x3F800054#32) = _
  rw [word_bnq, sqrt_coe' bnq_pos.le]

/-- The number of points is not zero. -/
theorem n_ne : (10000 : ℝ) ≠ 0 := by norm_num

variable {A : Args} {a0 : Vec Ideal S4x128x10000x1 .f32} (h0 : ∀ b c n, a0 (ix4 b c n 0) = (A.data b c n : EReal))

section stats
include h0

/-- The column sums. -/
theorem v0_at (b : Fin 4) (c : Fin 128) : val_main_v0 (F := Ideal) a0 (ix2 b c) = ((∑ n, A.data b c n : ℝ) : EReal) := by
  pointwise [val_main_v0, val_main_cst]
  simp only [Fin.sum_univ_one, h0, ← coe_sum']

/-- The means. -/
theorem v3_at (b : Fin 4) (c : Fin 128) : val_main_v3 (F := Ideal) a0 (ix4 b c 0 0) = (smean (A.data b c) : EReal) := by
  pointwise [val_main_v3, val_main_v1, val_main_v2, val_main_cst_0, v0_at h0, word_n]
  rw [div_coe' _ n_ne]
  rfl

/-- The means that the variance uses. -/
theorem call0_v3_at (b : Fin 4) (c : Fin 128) : val_main_call0_v3 (F := Ideal) a0 (ix4 b c 0 0) = (smean (A.data b c) : EReal) :=
  v3_at h0 b c

/-- The squared distances from the mean. -/
theorem call0_v6_at (b : Fin 4) (c : Fin 128) (n : Fin 10000) : val_main_call0_v6 (F := Ideal) a0 (ix4 b c n 0)
    = (((A.data b c n - smean (A.data b c)) * (A.data b c n - smean (A.data b c)) : ℝ) : EReal) := by
  pointwise [val_main_call0_v6, val_main_call0_v5, val_main_call0_v4, call0_v3_at h0, h0]
  simp only [← EReal.coe_sub, ← EReal.coe_mul]

/-- Their sums. -/
theorem call0_v9_at (b : Fin 4) (c : Fin 128) : val_main_call0_v9 (F := Ideal) a0 (ix2 b c)
    = ((∑ n, (A.data b c n - smean (A.data b c)) * (A.data b c n - smean (A.data b c)) : ℝ) : EReal) := by
  pointwise [val_main_call0_v9, val_main_call0_cst_2]
  simp only [Fin.sum_univ_one, call0_v6_at h0, ← coe_sum']

/-- The variances. -/
theorem v4_at (b : Fin 4) (c : Fin 128) : val_main_v4 (F := Ideal) a0 (ix4 b c 0 0) = (svar (A.data b c) : EReal) := by
  pointwise [val_main_v4, val_main_call0_v13, val_main_call0_v12, val_main_call0_v10, val_main_call0_v11, val_main_call0_v8, val_main_call0_v7,
    val_main_call0_cst_1, val_main_call0_cst_3, val_main_c, call0_v9_at h0, word_n]
  rw [sitofp_zero, ← EReal.coe_sub, sub_zero, div_coe' _ n_ne, if_pos (EReal.coe_pos.mpr (by norm_num))]
  rfl

/-- The normalized inputs. -/
theorem v11_at (b : Fin 4) (c : Fin 128) (n : Fin 10000) : val_main_v11 (F := Ideal) a0 (ix4 b c n 0) = (snorm (A.data b c) n : EReal) := by
  pointwise [val_main_v11, val_main_v10, val_main_v9, val_main_v8, val_main_v7, val_main_v6, val_main_v5, val_main_cst_1, v3_at h0, v4_at h0, h0, word_eps]
  have hp : 0 < svar (A.data b c) + eps := add_pos_of_nonneg_of_pos (svar_nonneg _) eps_pos
  rw [← EReal.coe_sub, ← EReal.coe_add, sqrt_coe' hp.le, div_coe' _ (Real.sqrt_pos.mpr hp).ne']
  rfl

variable {g e : Fin 128 → ℝ} {a1 a2 : Vec Ideal S128 .f32} (h1 : ∀ c, a1 (ix1 c) = (g c : EReal)) (h2 : ∀ c, a2 (ix1 c) = (e c : EReal))
include h1 h2

/-- The rectified inputs. -/
theorem v22_at (b : Fin 4) (c : Fin 128) (n : Fin 10000) :
    val_main_v22 (F := Ideal) a0 a1 a2 (ix4 b c n 0) = (act (g c) (e c) (snorm (A.data b c) n) : EReal) := by
  pointwise [val_main_v22, val_main_v21, val_main_v20, val_main_v19, val_main_v18, val_main_v17, val_main_v16, val_main_v15, val_main_v14, v13_at,
    val_main_call1_v0, val_main_call1_cst, v11_at h0, h1, h2]
  rw [div_coe' _ (Real.sqrt_pos.mpr bnq_pos).ne', ← EReal.coe_mul, ← EReal.coe_add, coe_max_zero']
  rfl

/-- The rectified inputs of the second use. -/
theorem v129_at (b : Fin 4) (c : Fin 128) (n : Fin 10000) :
    val_main_v129 (F := Ideal) a0 a1 a2 (ix4 b c n 0) = (act (g c) (e c) (snorm (A.data b c) n) : EReal) :=
  v22_at h0 h1 h2 b c n

/-- The scores: the rectified inputs times the weights, plus the bias. -/
theorem v27_at {w : Fin 256 → Fin 128 → ℝ} {s : Fin 256 → ℝ} {a3 : Vec Ideal S256x128 .f32} {a4 : Vec Ideal S256 .f32}
    (h3 : ∀ k c, a3 (ix2 k c) = (w k c : EReal)) (h4 : ∀ k, a4 (ix1 k) = (s k : EReal)) (b : Fin 4) (k : Fin 256) (n : Fin 10000) :
    val_main_v27 (F := Ideal) a0 a1 a2 a3 a4 (ix4 b k n 0)
      = ((∑ c, act (g c) (e c) (snorm (A.data b c) n) * w k c + s k : ℝ) : EReal) := by
  pointwise [val_main_v27, val_main_v26, val_main_v25, val_main_v24, val_main_v23, v22_at h0 h1 h2, h3, h4]
  simp only [← EReal.coe_mul, ← coe_sum', ← EReal.coe_add]

/-- The scores of the second use. -/
theorem v134_at {w : Fin 256 → Fin 128 → ℝ} {s : Fin 256 → ℝ} {a3 : Vec Ideal S256x128 .f32} {a4 : Vec Ideal S256 .f32}
    (h3 : ∀ k c, a3 (ix2 k c) = (w k c : EReal)) (h4 : ∀ k, a4 (ix1 k) = (s k : EReal)) (b : Fin 4) (k : Fin 256) (n : Fin 10000) :
    val_main_v134 (F := Ideal) a0 a1 a2 a3 a4 (ix4 b k n 0)
      = ((∑ c, act (g c) (e c) (snorm (A.data b c) n) * w k c + s k : ℝ) : EReal) :=
  v27_at h0 h1 h2 h3 h4 b k n

end stats

end Cert.Proof

end
-- ==== Proof.RPool.lean ====
/- The reference's pooling, read at an index: the softmax over the points, the pooled features and their pairwise distances. -/
module

public import proofs.«01_k».proof.Proof.RNorm

@[expose] public section

noncomputable section

namespace Cert.Proof

open Idealize.ShloMosaic Cert.ReferenceIdeal Cert.ReferenceIdeal.Gen Cert.ReferenceIdeal.Read

/-- A maximum over the points is the largest of the values along the third axis. -/
theorem read_max (x : S4x256x10000x1.Idx → EReal) (i : S_.Idx → EReal) (b : Fin 4) (k : Fin 256) :
    Host.reduce (FloatOps.maximumf (F := Ideal) (φ := .f32)) x i reducesTo_S4x256x10000x1_S4x256x1_d2 h_S_ (ix3 b k 0)
      = Finset.univ.fold max (i (Shape.Idx.first h_S_)) fun n : Fin 10000 => x (ix4 b k n 0) := by
  have h : S4x256x10000x1.Reduces [2] S4x256x1 := by decide
  have e : ∀ n : Fin (S4x256x10000x1.size 2), h.lift (ix3 b k 0) n = ix4 b k n 0 := by
    intro n
    funext q
    fin_cases q <;> rfl
  have e2 : x ∘ h.lift (ix3 b k 0) = fun n : Fin (S4x256x10000x1.size 2) => x (ix4 b k n 0) := funext fun n => congrArg x (e n)
  have e3 := Host.reduce_eq_fold_single (FloatOps.maximumf (F := Ideal) (φ := .f32)) x i reducesTo_S4x256x10000x1_S4x256x1_d2 h h_S_ (ix3 b k 0)
  rw [e2] at e3
  exact e3

/-- The lowest value leaves the other one in a maximum. -/
theorem max_lowest (x : EReal) : FloatOps.maximumf (F := Ideal) (φ := .f32) ⊥ x = x := max_eq_right bot_le

/-- The lowest value, spread over the batches and the columns. -/
theorem v29_at (i : S4x256x1.Idx) : val_main_v29 (F := Ideal) i = (⊥ : EReal) :=
  (val_main_v29_apply (F := Ideal) i).trans word_bot

variable {A : Args} {a0 : Vec Ideal S4x128x10000x1 .f32} {a1 a2 : Vec Ideal S128 .f32} {a3 : Vec Ideal S256x128 .f32}
    {a4 : Vec Ideal S256 .f32} {a5 a6 : Vec Ideal S128 .f32} {a7 : Vec Ideal S256x128 .f32} {a8 : Vec Ideal S256 .f32}
    {a9 : Vec Ideal S256x512 .f32} {a10 a11 a12 : Vec Ideal S256 .f32} {a13 : Vec Ideal S256x256 .f32} {a14 a15 a16 : Vec Ideal S256 .f32}
    {a17 : Vec Ideal S128x256 .f32} (hA : A.Are a0 a1 a2 a3 a4 a5 a6 a7 a8 a9 a10 a11 a12 a13 a14 a15 a16 a17)
include hA

/-- The pooling scores. -/
theorem emb_at (b : Fin 4) (k : Fin 256) (n : Fin 10000) :
    val_main_v27 (F := Ideal) a0 a1 a2 a3 a4 (ix4 b k n 0) = (A.emb b n k : EReal) :=
  v27_at hA.h0 hA.h1 hA.h2 hA.h3 hA.h4 b k n

/-- The largest score of each column, before it is compared with the lowest value. -/
theorem v28_at (b : Fin 4) (k : Fin 256) : val_main_v28 (F := Ideal) a0 a1 a2 a3 a4 (ix3 b k 0)
    = ((Finset.univ.sup' Finset.univ_nonempty fun n => A.emb b n k : ℝ) : EReal) := by
  have e : (fun n : Fin 10000 => val_main_v27 (F := Ideal) a0 a1 a2 a3 a4 (ix4 b k n 0)) = fun n => (A.emb b n k : EReal) :=
    funext fun n => emb_at hA b k n
  have w : val_main_cst_3 (F := Ideal) (Shape.Idx.first h_S_) = (⊥ : EReal) := word_bot
  unfold val_main_v28
  rw [read_max, e, w]
  exact fold_max_coe _

/-- The largest score of each column. -/
theorem v30_at (b : Fin 4) (k : Fin 256) : val_main_v30 (F := Ideal) a0 a1 a2 a3 a4 (ix3 b k 0)
    = ((Finset.univ.sup' Finset.univ_nonempty fun n => A.emb b n k : ℝ) : EReal) := by
  rw [val_main_v30_apply, v28_at hA, v29_at, max_lowest]

/-- The exponentials. -/
theorem v34_at (b : Fin 4) (k : Fin 256) (n : Fin 10000) : val_main_v34 (F := Ideal) a0 a1 a2 a3 a4 (ix4 b k n 0)
    = (Real.exp (A.emb b n k - Finset.univ.sup' Finset.univ_nonempty fun n => A.emb b n k) : EReal) := by
  pointwise [val_main_v34, val_main_v33, val_main_v32, val_main_v31, v30_at hA, emb_at hA]
  rw [← EReal.coe_sub, Ideal.exp_coe]

/-- The softmax over the points. -/
theorem v38_at (b : Fin 4) (k : Fin 256) (n : Fin 10000) : val_main_v38 (F := Ideal) a0 a1 a2 a3 a4 (ix4 b k n 0)
    = (smax (fun n => A.emb b n k) n : EReal) := by
  pointwise [val_main_v38, val_main_v37, val_main_v36, val_main_v35, val_main_cst_5, v34_at hA]
  have hp : 0 < ∑ n : Fin 10000, Real.exp (A.emb b n k - Finset.univ.sup' Finset.univ_nonempty fun n => A.emb b n k) :=
    Finset.sum_pos (fun _ _ => Real.exp_pos _) Finset.univ_nonempty
  rw [← coe_sum', div_coe' _ hp.ne']
  exact congrArg _ (smax_shift (fun n => A.emb b n k) _ n)

/-- The pooled features. -/
theorem v42_at (b : Fin 4) (c : Fin 128) (k : Fin 256) : val_main_v42 (F := Ideal) a0 a1 a2 a3 a4 (ix3 b c k) = (A.xt b c k : EReal) := by
  pointwise [val_main_v42, val_main_v41, val_main_v40, val_main_v39, v38_at hA, hA.h0]
  simp only [← EReal.coe_mul, ← coe_sum']
  rfl

/-- The pooled features, channels last. -/
theorem v45_at (b : Fin 4) (k : Fin 256) (c : Fin 128) : val_main_v45 (F := Ideal) a0 a1 a2 a3 a4 (ix3 b k c) = (A.xt b c k : EReal) := by
  pointwise [val_main_v45, val_main_v44, val_main_v43, v42_at hA]

/-- The squared lengths. -/
theorem v52_at (b : Fin 4) (c : Fin 128) : val_main_v52 (F := Ideal) a0 a1 a2 a3 a4 (ix3 b 0 c) = ((∑ k, A.xt b c k * A.xt b c k : ℝ) : EReal) := by
  pointwise [val_main_v52, val_main_v51, val_main_v50, val_main_cst_7, v45_at hA]
  simp only [← EReal.coe_mul, ← coe_sum']

/-- The negated pairwise squared distances. -/
theorem v58_at (b : Fin 4) (p q : Fin 128) : val_main_v58 (F := Ideal) a0 a1 a2 a3 a4 (ix3 b p q) = (kpd (A.xt b) p q : EReal) := by
  pointwise [val_main_v58, val_main_v57, val_main_v56, val_main_v55, val_main_v54, val_main_v53, val_main_v49, val_main_v48, val_main_v47, val_main_v46,
    val_main_cst_6, v52_at hA, v45_at hA, word_neg_two]
  simp only [← EReal.coe_mul, ← coe_sum', ← EReal.coe_neg, ← EReal.coe_sub]
  refine congrArg _ ?_
  unfold kpd
  ring

/-- The pooled features, channels first. -/
theorem v59_at (b : Fin 4) (c : Fin 128) (k : Fin 256) : val_main_v59 (F := Ideal) a0 a1 a2 a3 a4 (ix3 b c k) = (A.xt b c k : EReal) := by
  pointwise [val_main_v59, v45_at hA]

end Cert.Proof

end
-- ==== Proof.RKnn.lean ====
/- The reference's neighbours, read at an index: the six greatest entries of each row of the negated distances, and the
   features gathered at their positions. -/
module

public import proofs.«01_k».proof.Proof.RPool

@[expose] public section

noncomputable section

namespace Cert.Proof

open Idealize.ShloMosaic Cert.ReferenceIdeal Cert.ReferenceIdeal.Gen Cert.ReferenceIdeal.Read

/-! ## The two operations, over any operand -/

/-- Of reals, "greater in the total order" is "greater". -/
theorem cmp_greater (x y : ℝ) : (FloatOps.cmpfTotal (F := Ideal) (φ := .f32) .gt (x : EReal) (y : EReal) == 1#1) = decide (y < x) := by
  show (BitVec.ofBool (decide ((y : EReal) < (x : EReal))) == 1#1) = _
  by_cases h : y < x
  · simp [h]
  · simp [h]

/-- The second result of a sort of two operands, at an index. -/
theorem sort2_at {α β : Type} (s : Shape) (d : Fin s.rank) (cmp : α × β → α × β → BitVec 1) (x : s.Idx → α) (y : s.Idx → β) (i : s.Idx) :
    (Host.sort2 s d.val cmp x y).2 i
      = y (i.along d (sortedFrom (fun k k' => cmp (x (i.along d k), y (i.along d k)) (x (i.along d k'), y (i.along d k')) == 1#1) (i d))) := by
  unfold Host.sort2
  rw [dif_pos d.isLt]

/-- The positions that a top-k returns, at an index. -/
theorem topK_snd {α : Type} (s t : Shape) (d : Fin s.rank) (gt : α → α → BitVec 1) (x : s.Idx → α) (h : s.Slices (fun _ => 0) t) (j : t.Idx)
    (i : s.Idx) (hi : (fun q => ⟨0 + (j (q.cast h.1.symm)).val, Nat.lt_of_lt_of_le (Nat.add_lt_add_left (j _).isLt _) (h.2 q)⟩) = i) :
    (Host.topK t d.val gt x h).2 j
      = BitVec.ofNat 32 (sortedFrom (fun k k' => gt (x (i.along d k)) (x (i.along d k')) == 1#1) (i d)).val := by
  subst hi
  unfold Host.topK extractStridedSlice
  dsimp only
  rw [sort2_at, dif_pos d.isLt]
  unfold iotaInDim Shape.Idx.along
  rw [Function.update_self]

/-- The positions of the greatest entries of a row are those of its stable descending order. -/
theorem topK_at (x : S4x128x128.Idx → EReal) (f : Fin 4 → Fin 128 → Fin 128 → ℝ) (hx : ∀ b p q, x (ix3 b p q) = (f b p q : EReal))
    (b : Fin 4) (a : Fin 128) (j : Fin 6) :
    (Host.topK S4x128x6 2 (FloatOps.cmpfTotal (F := Ideal) (φ := .f32) .gt) x sliceFits_S4x128x128_S4x128x6).2 (ix3 b a j)
      = BitVec.ofNat 32 (sel (f b a) (j.castLE (by omega))).val := by
  have ea : ∀ k : Fin 128, (ix3 b a (j.castLE (by omega)) : S4x128x128.Idx).along 2 k = ix3 b a k := by
    intro k
    funext q
    fin_cases q <;> rfl
  have eg : (fun k k' : Fin 128 => FloatOps.cmpfTotal (F := Ideal) (φ := .f32) .gt
      (x ((ix3 b a (j.castLE (by omega)) : S4x128x128.Idx).along 2 k)) (x ((ix3 b a (j.castLE (by omega)) : S4x128x128.Idx).along 2 k')) == 1#1)
      = greater (f b a) := by
    funext k k'
    rw [ea, ea, hx, hx]
    exact cmp_greater _ _
  refine (topK_snd S4x128x128 S4x128x6 2 (FloatOps.cmpfTotal (F := Ideal) (φ := .f32) .gt) x sliceFits_S4x128x128_S4x128x6 (ix3 b a j)
    (ix3 b a (j.castLE (by omega))) ?_).trans ?_
  · funext q
    fin_cases q <;> exact Fin.ext (Nat.zero_add _)
  · exact congrArg (fun g : Fin 128 → Fin 128 → Bool => BitVec.ofNat 32 (sortedFrom g (j.castLE (by omega))).val) eg

/-- The gathered rows: row `idx[b, a, j, 0]` of batch `b`, for an index in range. -/
theorem gather_at (x : S4x128x256.Idx → EReal) (idx : IVec S4x128x6x1 32) (b : Fin 4) (a : Fin 128) (j : Fin 6) (k : Fin 256) (p : Fin 128)
    (hp : idx (ix4 b a j 0) = BitVec.ofNat 32 p.val) :
    Host.gather gather_S4x128x256_S4x128x6x1_S4x128x6x256_3_1_0_0_1_3_11256 x idx (ix4 b a j k) = x (ix3 b p k) := by
  unfold Host.gather
  refine congrArg x ?_
  have hi : gather_S4x128x256_S4x128x6x1_S4x128x6x256_3_1_0_0_1_3_11256.siIdx (ix4 b a j k) ⟨0, by decide⟩ = ix4 b a j 0 := by
    funext q
    fin_cases q <;> rfl
  have hn : min (BitVec.ofNat 32 p.val).toInt.toNat 127 = p.val := by
    have := p.isLt
    have e : (BitVec.ofNat 32 p.val).toInt = (p.val : Int) := by
      rw [BitVec.toInt_eq_toNat_cond, BitVec.toNat_ofNat]
      omega
    rw [e]
    omega
  funext q
  refine Fin.ext ?_
  show gather_S4x128x256_S4x128x6x1_S4x128x6x256_3_1_0_0_1_3_11256.start (ix4 b a j k) idx q
    + gather_S4x128x256_S4x128x6x1_S4x128x6x256_3_1_0_0_1_3_11256.batchCoord (ix4 b a j k) q
    + gather_S4x128x256_S4x128x6x1_S4x128x6x256_3_1_0_0_1_3_11256.offCoord (ix4 b a j k) q = _
  fin_cases q
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    unfold GatherDims.start
    rw [dif_pos (by decide)]
    simp only [Nat.add_zero]
    refine Eq.trans ?_ hn
    rw [← hp, ← hi]
    rfl
  · rw [GatherDims.batchCoord_eq_zero _ _ _ (by decide)]
    unfold GatherDims.start GatherDims.offCoord
    rw [dif_neg (by decide), dif_pos (by decide)]
    simp only [Nat.zero_add, Nat.add_zero]
    rfl

/-! ## The reference's steps -/

variable {A : Args} {a0 : Vec Ideal S4x128x10000x1 .f32} {a1 a2 : Vec Ideal S128 .f32} {a3 : Vec Ideal S256x128 .f32}
    {a4 : Vec Ideal S256 .f32} {a5 a6 : Vec Ideal S128 .f32} {a7 : Vec Ideal S256x128 .f32} {a8 : Vec Ideal S256 .f32}
    {a9 : Vec Ideal S256x512 .f32} {a10 a11 a12 : Vec Ideal S256 .f32} {a13 : Vec Ideal S256x256 .f32} {a14 a15 a16 : Vec Ideal S256 .f32}
    {a17 : Vec Ideal S128x256 .f32} (hA : A.Are a0 a1 a2 a3 a4 a5 a6 a7 a8 a9 a10 a11 a12 a13 a14 a15 a16 a17)
include hA

/-- The neighbours' positions. -/
theorem indices_at (b : Fin 4) (a : Fin 128) (j : Fin 6) : val_main_indices (F := Ideal) a0 a1 a2 a3 a4 (ix3 b a j)
    = BitVec.ofNat 32 (A.nb b a (j.castLE (by omega))).val :=
  topK_at _ (fun b => kpd (A.xt b)) (fun b p q => v58_at hA b p q) b a j

/-- They are not negative, so they are used as they are. -/
theorem v65_at (b : Fin 4) (a : Fin 128) (j : Fin 6) : val_main_v65 (F := Ideal) a0 a1 a2 a3 a4 (ix4 b a j 0)
    = BitVec.ofNat 32 (A.nb b a (j.castLE (by omega))).val := by
  pointwise [val_main_v65, val_main_v64, val_main_v63, val_main_v62, val_main_v61, val_main_v60, val_main_c_8, val_main_c_9, indices_at hA]
  have h : ∀ p : Fin 128, IntOp.cmpi .slt (BitVec.ofNat 32 p.val) 0#32 = 0#1 := by decide
  rw [h]
  rfl

/-- The neighbours' features. -/
theorem v66_at (b : Fin 4) (a : Fin 128) (j : Fin 6) (k : Fin 256) : val_main_v66 (F := Ideal) a0 a1 a2 a3 a4 (ix4 b a j k)
    = (A.xt b (A.nb b a (j.castLE (by omega))) k : EReal) :=
  (gather_at _ _ b a j k _ (v65_at hA b a j)).trans (v59_at hA b _ k)

/-- The channel's own features. -/
theorem v68_at (b : Fin 4) (a : Fin 128) (j : Fin 6) (k : Fin 256) : val_main_v68 (F := Ideal) a0 a1 a2 a3 a4 (ix4 b a j k)
    = (A.xt b a k : EReal) := by
  pointwise [val_main_v68, val_main_v67, v59_at hA]

/-- Their difference. -/
theorem v69_at (b : Fin 4) (a : Fin 128) (j : Fin 6) (k : Fin 256) : val_main_v69 (F := Ideal) a0 a1 a2 a3 a4 (ix4 b a j k)
    = ((A.xt b a k - A.xt b (A.nb b a (j.castLE (by omega))) k : ℝ) : EReal) := by
  pointwise [val_main_v69, v68_at hA, v66_at hA]
  exact (EReal.coe_sub _ _).symm

/-- The first half of the joined features. -/
theorem v70_left (b : Fin 4) (a : Fin 128) (j : Fin 6) (i : Fin 256) : val_main_v70 (F := Ideal) a0 a1 a2 a3 a4 (ix4 b a j (i.castAdd 256))
    = (A.xt b a i : EReal) := by
  pointwise [val_main_v70, v68_at hA, v69_at hA]
  exact dif_pos i.isLt

/-- The second half. -/
theorem v70_right (b : Fin 4) (a : Fin 128) (j : Fin 6) (i : Fin 256) : val_main_v70 (F := Ideal) a0 a1 a2 a3 a4 (ix4 b a j (i.natAdd 256))
    = ((A.xt b a i - A.xt b (A.nb b a (j.castLE (by omega))) i : ℝ) : EReal) := by
  have hi : ∀ h : 256 + i.val - 256 < 256, (⟨256 + i.val - 256, h⟩ : Fin 256) = i := fun h => Fin.ext (Nat.add_sub_cancel_left 256 i.val)
  pointwise [val_main_v70, v68_at hA, v69_at hA]
  refine (dif_neg (by simp)).trans ?_
  simp only [Fin.val_natAdd, hi]

end Cert.Proof

end
-- ==== Proof.RLayers.lean ====
/- The reference's two layers over the joined features, read at an index, and the largest of the six neighbours. -/
module

public import proofs.«01_k».proof.Proof.RKnn

@[expose] public section

noncomputable section

namespace Cert.Proof

open Idealize.ShloMosaic Cert.ReferenceIdeal Cert.ReferenceIdeal.Gen Cert.ReferenceIdeal.Read

/-- The divisor of the first layer's normalization. -/
theorem v78_at : val_main_v78 (F := Ideal) ix0 = ((Real.sqrt bnq : ℝ) : EReal) := v13_at

/-- The divisor of the second layer's normalization. -/
theorem v94_at : val_main_v94 (F := Ideal) ix0 = ((Real.sqrt bnq : ℝ) : EReal) := v13_at

/-- The largest of six reals, from the lowest value on. -/
theorem fold_six (f : Fin 6 → ℝ) : Finset.univ.fold max (⊥ : EReal) (fun j => (f j : EReal))
    = ((max (max (max (max (max (f 0) (f 1)) (f 2)) (f 3)) (f 4)) (f 5) : ℝ) : EReal) := by
  rw [fold_max_coe]
  refine congrArg _ (le_antisymm (Finset.sup'_le _ _ fun j _ => ?_) ?_)
  · fin_cases j <;> simp
  · have h : ∀ j, f j ≤ Finset.univ.sup' Finset.univ_nonempty f := fun j => Finset.le_sup' f (Finset.mem_univ j)
    exact max_le (max_le (max_le (max_le (max_le (h 0) (h 1)) (h 2)) (h 3)) (h 4)) (h 5)

variable {A : Args} {a0 : Vec Ideal S4x128x10000x1 .f32} {a1 a2 : Vec Ideal S128 .f32} {a3 : Vec Ideal S256x128 .f32}
    {a4 : Vec Ideal S256 .f32} {a5 a6 : Vec Ideal S128 .f32} {a7 : Vec Ideal S256x128 .f32} {a8 : Vec Ideal S256 .f32}
    {a9 : Vec Ideal S256x512 .f32} {a10 a11 a12 : Vec Ideal S256 .f32} {a13 : Vec Ideal S256x256 .f32} {a14 a15 a16 : Vec Ideal S256 .f32}
    {a17 : Vec Ideal S128x256 .f32} (hA : A.Are a0 a1 a2 a3 a4 a5 a6 a7 a8 a9 a10 a11 a12 a13 a14 a15 a16 a17)
include hA

/-- The first layer's products: over the channel's features and over the differences. -/
theorem v72_at (b : Fin 4) (a : Fin 128) (j : Fin 6) (o : Fin 256) : val_main_v72 (F := Ideal) a0 a1 a2 a3 a4 a9 (ix4 b a j o)
    = ((∑ i : Fin 256, A.xt b a i * A.w1 o (i.castAdd 256)
      + ∑ i : Fin 256, (A.xt b a i - A.xt b (A.nb b a (j.castLE (by omega))) i) * A.w1 o (i.natAdd 256) : ℝ) : EReal) := by
  pointwise [val_main_v72, val_main_v71, hA.h9]
  refine (Fin.sum_univ_add (fun i : Fin (256 + 256) => val_main_v70 (F := Ideal) a0 a1 a2 a3 a4 (ix4 b a j i) * (A.w1 o i : EReal))).trans ?_
  simp only [v70_left hA, v70_right hA, ← EReal.coe_mul, ← coe_sum', ← EReal.coe_add]

/-- The first layer. -/
theorem v87_at (b : Fin 4) (a : Fin 128) (j : Fin 6) (o : Fin 256) :
    val_main_v87 (F := Ideal) a0 a1 a2 a3 a4 a9 a10 a11 a12 (ix4 b o a j) = (A.l1 b a (A.nb b a (j.castLE (by omega))) o : EReal) := by
  pointwise [val_main_v87, val_main_v86, val_main_v85, val_main_v84, val_main_v83, val_main_v82, val_main_v81, val_main_v80, val_main_v79, v78_at,
    val_main_v76, val_main_v75, val_main_v74, val_main_v73, val_main_call2_v0, val_main_call2_cst, v72_at hA, hA.h10, hA.h11, hA.h12]
  rw [← EReal.coe_add, div_coe' _ (Real.sqrt_pos.mpr bnq_pos).ne', ← EReal.coe_mul, ← EReal.coe_add, coe_max_zero']
  rfl

/-- The second layer's products. -/
theorem v88_at (b : Fin 4) (a : Fin 128) (j : Fin 6) (k : Fin 256) :
    val_main_v88 (F := Ideal) a0 a1 a2 a3 a4 a9 a10 a11 a12 a13 (ix4 b a j k)
      = ((∑ o, A.l1 b a (A.nb b a (j.castLE (by omega))) o * A.w2 k o : ℝ) : EReal) := by
  pointwise [val_main_v88, v87_at hA, hA.h13]
  simp only [← EReal.coe_mul, ← coe_sum']

/-- The second layer. -/
theorem v103_at (b : Fin 4) (a : Fin 128) (j : Fin 6) (k : Fin 256) :
    val_main_v103 (F := Ideal) a0 a1 a2 a3 a4 a9 a10 a11 a12 a13 a14 a15 a16 (ix4 b k a j)
      = (A.l2 b a (A.nb b a (j.castLE (by omega))) k : EReal) := by
  pointwise [val_main_v103, val_main_v102, val_main_v101, val_main_v100, val_main_v99, val_main_v98, val_main_v97, val_main_v96, val_main_v95, v94_at,
    val_main_v92, val_main_v91, val_main_v90, val_main_v89, val_main_call3_v0, val_main_call3_cst, v88_at hA, hA.h14, hA.h15, hA.h16]
  rw [← EReal.coe_add, div_coe' _ (Real.sqrt_pos.mpr bnq_pos).ne', ← EReal.coe_mul, ← EReal.coe_add, coe_max_zero']
  rfl

/-- The largest over the six neighbours. -/
theorem v104_at (b : Fin 4) (a : Fin 128) (k : Fin 256) :
    val_main_v104 (F := Ideal) a0 a1 a2 a3 a4 a9 a10 a11 a12 a13 a14 a15 a16 (ix3 b k a) = (A.gm b a k : EReal) := by
  pointwise [val_main_v104, val_main_cst_12, v103_at hA, word_bot]
  exact fold_six fun j => A.l2 b a (A.nb b a (j.castLE (by omega))) k

/-- The same, channels first. -/
theorem v147_at (b : Fin 4) (a : Fin 128) (k : Fin 256) :
    val_main_v147 (F := Ideal) a0 a1 a2 a3 a4 a9 a10 a11 a12 a13 a14 a15 a16 (ix3 b a k) = (A.gm b a k : EReal) := by
  pointwise [val_main_v147, val_main_v106, val_main_v105, v104_at hA]

end Cert.Proof

end
-- ==== Proof.ROut.lean ====
/- The reference's result, read at an index: the softmax over the clusters, the unpooled features and the last product. -/
module

public import proofs.«01_k».proof.Proof.RLayers

@[expose] public section

noncomputable section

namespace Cert.Proof

open Idealize.ShloMosaic Cert.ReferenceIdeal Cert.ReferenceIdeal.Gen Cert.ReferenceIdeal.Read

/-- The lowest value, spread over the batches and the points. -/
theorem v136_at (i : S4x10000x1.Idx) : val_main_v136 (F := Ideal) i = (⊥ : EReal) :=
  (val_main_v136_apply (F := Ideal) i).trans word_bot

variable {A : Args} {a0 : Vec Ideal S4x128x10000x1 .f32} {a1 a2 : Vec Ideal S128 .f32} {a3 : Vec Ideal S256x128 .f32}
    {a4 : Vec Ideal S256 .f32} {a5 a6 : Vec Ideal S128 .f32} {a7 : Vec Ideal S256x128 .f32} {a8 : Vec Ideal S256 .f32}
    {a9 : Vec Ideal S256x512 .f32} {a10 a11 a12 : Vec Ideal S256 .f32} {a13 : Vec Ideal S256x256 .f32} {a14 a15 a16 : Vec Ideal S256 .f32}
    {a17 : Vec Ideal S128x256 .f32} (hA : A.Are a0 a1 a2 a3 a4 a5 a6 a7 a8 a9 a10 a11 a12 a13 a14 a15 a16 a17)
include hA

/-- The unpooling scores. -/
theorem emb2_at (b : Fin 4) (k : Fin 256) (n : Fin 10000) :
    val_main_v134 (F := Ideal) a0 a5 a6 a7 a8 (ix4 b k n 0) = (A.emb2 b n k : EReal) :=
  v134_at hA.h0 hA.h5 hA.h6 hA.h7 hA.h8 b k n

/-- The largest score of each point, before it is compared with the lowest value. -/
theorem v135_at (b : Fin 4) (n : Fin 10000) : val_main_v135 (F := Ideal) a0 a5 a6 a7 a8 (ix3 b n 0)
    = ((Finset.univ.sup' Finset.univ_nonempty fun k => A.emb2 b n k : ℝ) : EReal) := by
  pointwise [val_main_v135, val_main_cst_18, emb2_at hA, word_bot]
  exact fold_max_coe _

/-- The largest score of each point. -/
theorem v137_at (b : Fin 4) (n : Fin 10000) : val_main_v137 (F := Ideal) a0 a5 a6 a7 a8 (ix3 b n 0)
    = ((Finset.univ.sup' Finset.univ_nonempty fun k => A.emb2 b n k : ℝ) : EReal) := by
  rw [val_main_v137_apply, v135_at hA, v136_at, max_lowest]

/-- The exponentials. -/
theorem v141_at (b : Fin 4) (k : Fin 256) (n : Fin 10000) : val_main_v141 (F := Ideal) a0 a5 a6 a7 a8 (ix4 b k n 0)
    = (Real.exp (A.emb2 b n k - Finset.univ.sup' Finset.univ_nonempty fun k => A.emb2 b n k) : EReal) := by
  pointwise [val_main_v141, val_main_v140, val_main_v139, val_main_v138, v137_at hA, emb2_at hA]
  rw [← EReal.coe_sub, Ideal.exp_coe]

/-- The softmax over the clusters. -/
theorem v146_at (b : Fin 4) (k : Fin 256) (n : Fin 10000) : val_main_v146 (F := Ideal) a0 a5 a6 a7 a8 (ix3 b k n)
    = (smax (fun k => A.emb2 b n k) k : EReal) := by
  pointwise [val_main_v146, val_main_v145, val_main_v144, val_main_v143, val_main_v142, val_main_cst_20, v141_at hA]
  have hp : 0 < ∑ k : Fin 256, Real.exp (A.emb2 b n k - Finset.univ.sup' Finset.univ_nonempty fun k => A.emb2 b n k) :=
    Finset.sum_pos (fun _ _ => Real.exp_pos _) Finset.univ_nonempty
  rw [← coe_sum', div_coe' _ hp.ne']
  exact congrArg _ (smax_shift (fun k => A.emb2 b n k) _ k)

/-- The unpooled features. -/
theorem v149_at (b : Fin 4) (a : Fin 128) (n : Fin 10000) :
    val_main_v149 (F := Ideal) a0 a1 a2 a3 a4 a5 a6 a7 a8 a9 a10 a11 a12 a13 a14 a15 a16 (ix4 b a n 0) = (A.up b a n : EReal) := by
  pointwise [val_main_v149, val_main_v148, v147_at hA, v146_at hA]
  simp only [← EReal.coe_mul, ← coe_sum']
  rfl

/-- The first half of the joined features: the input. -/
theorem v150_left (b : Fin 4) (c : Fin 128) (n : Fin 10000) :
    val_main_v150 (F := Ideal) a0 a1 a2 a3 a4 a5 a6 a7 a8 a9 a10 a11 a12 a13 a14 a15 a16 (ix4 b (c.castAdd 128) n 0) = (A.data b c n : EReal) := by
  pointwise [val_main_v150, hA.h0, v149_at hA]
  exact dif_pos c.isLt

/-- The second half: the unpooled features. -/
theorem v150_right (b : Fin 4) (a : Fin 128) (n : Fin 10000) :
    val_main_v150 (F := Ideal) a0 a1 a2 a3 a4 a5 a6 a7 a8 a9 a10 a11 a12 a13 a14 a15 a16 (ix4 b (a.natAdd 128) n 0) = (A.up b a n : EReal) := by
  have hi : ∀ h : 128 + a.val - 128 < 128, (⟨128 + a.val - 128, h⟩ : Fin 128) = a := fun h => Fin.ext (Nat.add_sub_cancel_left 128 a.val)
  pointwise [val_main_v150, hA.h0, v149_at hA]
  refine (dif_neg (by simp)).trans ?_
  simp only [Fin.val_natAdd, hi]

/-- The last product. -/
theorem v151_at (b : Fin 4) (o : Fin 128) (n : Fin 10000) :
    val_main_v151 (F := Ideal) a0 a1 a2 a3 a4 a5 a6 a7 a8 a9 a10 a11 a12 a13 a14 a15 a16 a17 (ix4 b n 0 o) = (A.out b o n : EReal) := by
  pointwise [val_main_v151, hA.h17]
  refine (Fin.sum_univ_add (fun i : Fin (128 + 128) =>
    val_main_v150 (F := Ideal) a0 a1 a2 a3 a4 a5 a6 a7 a8 a9 a10 a11 a12 a13 a14 a15 a16 (ix4 b i n 0) * (A.ws o i : EReal))).trans ?_
  simp only [v150_left hA, v150_right hA, ← EReal.coe_mul, ← coe_sum', ← EReal.coe_add]
  rfl

/-- The reference's result: the last product plus the bias, at any bias. -/
theorem v155_at (a18 : Vec Ideal S128 .f32) (b : Fin 4) (o : Fin 128) (n : Fin 10000) :
    val_main_v155 (F := Ideal) a0 a1 a2 a3 a4 a5 a6 a7 a8 a9 a10 a11 a12 a13 a14 a15 a16 a17 a18 (ix4 b o n 0)
      = (A.out b o n : EReal) + a18 (ix1 o) := by
  pointwise [val_main_v155, val_main_v154, val_main_v153, val_main_v152, v151_at hA]

/-- The reference's result as a whole array. -/
theorem v155_eq (a18 : Vec Ideal S128 .f32) :
    val_main_v155 (F := Ideal) a0 a1 a2 a3 a4 a5 a6 a7 a8 a9 a10 a11 a12 a13 a14 a15 a16 a17 a18
      = fun y : S4x128x10000x1.Idx => (A.out (y 0) (y 1) (y 2) : EReal) + a18 (ix1 (y 1)) := by
  funext y
  have e : y = ix4 (y 0) (y 1) (y 2) 0 := by
    funext q
    fin_cases q
    · rfl
    · rfl
    · rfl
    · exact Subsingleton.elim (α := Fin 1) _ _
  exact (congrArg _ e).trans (v155_at hA a18 (y 0) (y 1) (y 2))

end Cert.Proof

end
-- ==== Proof.Equal.lean ====
/- The two runs end with equal results: the kernel's blocks put together are the reference's array. -/
module

public import proofs.«01_k».proof.Proof.Finite
public import proofs.«01_k».proof.Proof.ROut
public import proofs.«01_k».proof.Proof.Gen.ReferenceIdeal.Run

@[expose] public section

noncomputable section

namespace Cert.Proof

open Idealize.ShloMosaic Idealize.SL.Sem

/-- From memories that agree on the arguments, the reference's composed result on a device is the array that the kernel leaves there. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (A : Args) (hA : AreAt m A c)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v155 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = resG m A c := by
  obtain ⟨h0, h1, h2, h3, h4, h5, h6, h7, h8, h9, h10, h11, h12, h13, h14, h15, h16, h17, h18⟩ := h
  rw [h0, h1, h2, h3, h4, h5, h6, h7, h8, h9, h10, h11, h12, h13, h14, h15, h16, h17, h18]
  exact v155_eq hA _

/-- On finite arguments the idealized kernel and the idealized reference end with equal results and unchanged arguments. -/
theorem equal : Cert.algebraic_KernelIdeal_ReferenceIdeal_pre_finite_args (hKernelIdeal := Cert.KernelIdeal.Gen.facts)
    (hReferenceIdeal := Cert.ReferenceIdeal.Gen.facts) (hPre_finite_args := Cert.Pre_finite_args.Gen.facts) := by
  intro m g m' g' hm he
  choose A hA using args_of_finite m hm
  refine ⟨fun c => resG m (A c) c, kernel_run m g A hA, ?_⟩
  refine (θ_run Cert.ReferenceIdeal.defs _ _).mono (fun r h c => ⟨(h c).1.trans ?_, (h c).2⟩) (Cert.ReferenceIdeal.Value.run (F := Ideal) m' g')
  exact (Cert.ReferenceIdeal.Read.val_main_v155_eq (F := Ideal) (StableHlo.launchContents m' c)).trans (result_eq m m' c (A c) (hA c) (he c))

end Cert.Proof

end
-- ==== Proof.lean ====
/- The proof of the certificate's claim: the programs' frames, the named constants of the idealized kernel, and the equality
   of its results with the reference's. -/
module

public import proofs.«01_k».proof.Defs
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_args
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The reference runs to the end, leaves its arguments unchanged and has no semaphore to leave at a count. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The two constants that the idealized kernel names, `1 / 10000` and `1 / √(1 + ε)`, stand where the kernel has their
    nearest float words. -/
theorem preserves : Cert.preserves_Kernel_KernelIdeal :=
  ⟨IdealRules.named_const.statement Cert.KernelIdeal.κ "inv_n" .f32 0x38D1B717#32 ((1 / 10000 : ℝ) : EReal) rfl,
    IdealRules.named_const.statement Cert.KernelIdeal.κ "bn_s" .f32 0x3F7FFFAC#32
      (((Real.sqrt (2097173 / 2097152))⁻¹ : ℝ) : EReal) rfl⟩

/-- The certificate's claim. -/
theorem claim : Cert.Claim :=
  ⟨Cert.Kernel.Gen.facts, Cert.KernelIdeal.Gen.facts, Cert.ReferenceIdeal.Gen.facts, Cert.Pre_finite_args.Gen.facts,
    fun m ρ _ => Cert.Kernel.Gen.frame m ρ, fun m ρ _ => Cert.KernelIdeal.Gen.frame m ρ,
    fun m ρ _ => Cert.KernelIdeal.Gen.frame m ρ, fun m ρ _ => frame_reference m ρ trivial,
    fun m ρ _ => frame_reference m ρ trivial, preserves, equal⟩

end Cert.Proof

end
